-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ranges_nonzero [hPre_ranges_nonzero : Cert.Pre_ranges_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_ranges_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranges_nonzero [hPre_ranges_nonzero : Cert.Pre_ranges_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranges_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ranges_nonzero [hKernelIdeal : Cert.KernelIdeal.Facts] [hPre_ranges_nonzero : Cert.Pre_ranges_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ranges_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ranges_nonzero [hReferenceIdeal : Cert.ReferenceIdeal.Facts] [hPre_ranges_nonzero : Cert.Pre_ranges_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranges_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_ranges_nonzero [hKernelIdeal : Cert.KernelIdeal.Facts] [hReferenceIdeal : Cert.ReferenceIdeal.Facts] [hPre_ranges_nonzero : Cert.Pre_ranges_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ranges_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ranges_nonzero : Cert.Pre_ranges_nonzero.Facts),
    quiescent_Kernel (hKernel := hKernel)
    ∧ quiescent_KernelIdeal (hKernelIdeal := hKernelIdeal)
    ∧ quiescent_KernelIdeal_pre_ranges_nonzero (hKernelIdeal := hKernelIdeal) (hPre_ranges_nonzero := hPre_ranges_nonzero)
    ∧ quiescent_ReferenceIdeal (hReferenceIdeal := hReferenceIdeal)
    ∧ quiescent_ReferenceIdeal_pre_ranges_nonzero (hReferenceIdeal := hReferenceIdeal) (hPre_ranges_nonzero := hPre_ranges_nonzero)
    ∧ preserves_Kernel_KernelIdeal
    ∧ algebraic_KernelIdeal_ReferenceIdeal_pre_ranges_nonzero (hKernelIdeal := hKernelIdeal) (hReferenceIdeal := hReferenceIdeal) (hPre_ranges_nonzero := hPre_ranges_nonzero)
-- ==== Pre_ranges_nonzero.lean ====
abbrev S8x1x2048x2048 : Shape := ⟨4, ![8, 1, 2048, 2048]⟩
abbrev S8x1x2048x1 : Shape := ⟨4, ![8, 1, 2048, 1]⟩
abbrev S_ : Shape := ⟨0, ![]⟩

class Facts : Prop where
  reducesTo_S8x1x2048x2048_S_d0_1_2_3 : S8x1x2048x2048.ReducesTo [0, 1, 2, 3] S_
  h_S_ : 0 < S_.numel

variable [Facts]

def fn {F : FTy → Type} [FloatOps F] (main_arg0 : FVec F S8x1x2048x2048 .f32) (main_arg1 : FVec F S8x1x2048x2048 .f32) (main_arg2 : FVec F S8x1x2048x2048 .f32) (main_arg3 : FVec F S8x1x2048x1 .f32) : IVec S_ 1 :=
  let main_cst : FVec F S_ .f32 := constant S_ .f32 0xFF800000#32
  let main_v0 : FVec F S_ .f32 := (fun x v => Host.reduce FloatOps.maximumf x v reducesTo_S8x1x2048x2048_S_d0_1_2_3 h_S_) main_arg0 main_cst
  let main_cst_0 : FVec F S_ .f32 := constant S_ .f32 0x7F800000#32
  let main_v1 : FVec F S_ .f32 := (fun x v => Host.reduce FloatOps.minimumf x v reducesTo_S8x1x2048x2048_S_d0_1_2_3 h_S_) main_arg0 main_cst_0
  let main_v2 : FVec F S_ .f32 := subf main_v0 main_v1
  let main_cst_1 : FVec F S_ .f32 := constant S_ .f32 0x00000000#32
  let main_v3 : IVec S_ 1 := cmpf .une main_v2 main_cst_1
  let main_cst_2 : FVec F S_ .f32 := constant S_ .f32 0xFF800000#32
  let main_v4 : FVec F S_ .f32 := (fun x v => Host.reduce FloatOps.maximumf x v reducesTo_S8x1x2048x2048_S_d0_1_2_3 h_S_) main_arg1 main_cst_2
  let main_cst_3 : FVec F S_ .f32 := constant S_ .f32 0x7F800000#32
  let main_v5 : FVec F S_ .f32 := (fun x v => Host.reduce FloatOps.minimumf x v reducesTo_S8x1x2048x2048_S_d0_1_2_3 h_S_) main_arg1 main_cst_3
  let main_v6 : FVec F S_ .f32 := subf main_v4 main_v5
  let main_cst_4 : FVec F S_ .f32 := constant S_ .f32 0x00000000#32
  let main_v7 : IVec S_ 1 := cmpf .une main_v6 main_cst_4
  let main_v8 : IVec S_ 1 := andi main_v3 main_v7
  main_v8
-- ==== Kernel.lean ====
abbrev S8x1x2048x2048 : Shape := ⟨4, ![8, 1, 2048, 2048]⟩
abbrev S8x1x2048x1 : Shape := ⟨4, ![8, 1, 2048, 1]⟩
abbrev S16384x2048 : Shape := ⟨2, ![16384, 2048]⟩
abbrev S32x1x128 : Shape := ⟨3, ![32, 1, 128]⟩
abbrev S512x2048 : Shape := ⟨2, ![512, 2048]⟩
abbrev S1x1x128 : Shape := ⟨3, ![1, 1, 128]⟩
abbrev S1x512x2048 : Shape := ⟨3, ![1, 512, 2048]⟩
abbrev S1 : Shape := ⟨1, ![1]⟩
abbrev S1x1x1 : Shape := ⟨3, ![1, 1, 1]⟩
abbrev S32x1x1 : Shape := ⟨3, ![32, 1, 1]⟩
abbrev S32 : Shape := ⟨1, ![32]⟩
abbrev S_ : Shape := ⟨0, ![]⟩
abbrev S4 : Shape := ⟨1, ![4]⟩
abbrev S8x2048x2048 : Shape := ⟨3, ![8, 2048, 2048]⟩
abbrev S8x40x64 : Shape := ⟨3, ![8, 40, 64]⟩
abbrev S1x40x64 : Shape := ⟨3, ![1, 40, 64]⟩
abbrev S40x2048 : Shape := ⟨2, ![40, 2048]⟩
abbrev S64x2048 : Shape := ⟨2, ![64, 2048]⟩
abbrev S40x64 : Shape := ⟨2, ![40, 64]⟩
abbrev S1x128x2048 : Shape := ⟨3, ![1, 128, 2048]⟩
abbrev S128x2048 : Shape := ⟨2, ![128, 2048]⟩
abbrev S1x2048 : Shape := ⟨2, ![1, 2048]⟩
abbrev S8x2048 : Shape := ⟨2, ![8, 2048]⟩
abbrev S8x64x32 : Shape := ⟨3, ![8, 64, 32]⟩
abbrev S8x32x64 : Shape := ⟨3, ![8, 32, 64]⟩
abbrev S1x128 : Shape := ⟨2, ![1, 128]⟩
abbrev S8x1x64 : Shape := ⟨3, ![8, 1, 64]⟩
abbrev S8x1x1 : Shape := ⟨3, ![8, 1, 1]⟩
abbrev S8x1x63 : Shape := ⟨3, ![8, 1, 63]⟩
abbrev S8x31x64 : Shape := ⟨3, ![8, 31, 64]⟩
abbrev S1x8x32x64 : Shape := ⟨4, ![1, 8, 32, 64]⟩
abbrev S1x1x1x1 : Shape := ⟨4, ![1, 1, 1, 1]⟩
abbrev S1x1 : Shape := ⟨2, ![1, 1]⟩

abbrev nBuf : Space → Nat
  | .hbm => 52
  | .vmem => 20
  | .smem => 2
  | _ => 0

abbrev bufTy : (tb : Table) → Fin (tcTables nBuf tb) → BufTy
  | .hbm, ⟨0, _⟩ => ⟨S8x1x2048x2048, .f32⟩
  | .hbm, ⟨1, _⟩ => ⟨S8x1x2048x2048, .f32⟩
  | .hbm, ⟨2, _⟩ => ⟨S8x1x2048x2048, .f32⟩
  | .hbm, ⟨3, _⟩ => ⟨S8x1x2048x1, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S32x1x128, .f32⟩
  | .hbm, ⟨8, _⟩ => ⟨S32x1x1, .f32⟩
  | .hbm, ⟨9, _⟩ => ⟨S32, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S32x1x1, .f32⟩
  | .hbm, ⟨15, _⟩ => ⟨S32, .f32⟩
  | .hbm, ⟨16, _⟩ => ⟨S_, .f32⟩
  | .hbm, ⟨17, _⟩ => ⟨S_, .f32⟩
  | .hbm, ⟨18, _⟩ => ⟨S32x1x1, .f32⟩
  | .hbm, ⟨19, _⟩ => ⟨S32, .f32⟩
  | .hbm, ⟨20, _⟩ => ⟨S_, .f32⟩
  | .hbm, ⟨21, _⟩ => ⟨S_, .f32⟩
  | .hbm, ⟨22, _⟩ => ⟨S32x1x1, .f32⟩
  | .hbm, ⟨23, _⟩ => ⟨S32, .f32⟩
  | .hbm, ⟨24, _⟩ => ⟨S_, .f32⟩
  | .hbm, ⟨25, _⟩ => ⟨S_, .f32⟩
  | .hbm, ⟨26, _⟩ => ⟨S32x1x1, .f32⟩
  | .hbm, ⟨27, _⟩ => ⟨S32, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1, .f32⟩
  | .hbm, ⟨37, _⟩ => ⟨S1, .f32⟩
  | .hbm, ⟨38, _⟩ => ⟨S1, .f32⟩
  | .hbm, ⟨39, _⟩ => ⟨S1, .f32⟩
  | .hbm, ⟨40, _⟩ => ⟨S4, .f32⟩
  | .hbm, ⟨41, _⟩ => ⟨S8x2048x2048, .f32⟩
  | .hbm, ⟨42, _⟩ => ⟨S8x2048x2048, .f32⟩
  | .hbm, ⟨43, _⟩ => ⟨S8x40x64, .f32⟩
  | .hbm, ⟨44, _⟩ => ⟨S8x40x64, .f32⟩
  | .hbm, ⟨45, _⟩ => ⟨S8x2048, .f32⟩
  | .hbm, ⟨46, _⟩ => ⟨S8x64x32, .f32⟩
  | .hbm, ⟨47, _⟩ => ⟨S8x32x64, .f32⟩
  | .hbm, ⟨48, _⟩ => ⟨S1, .f32⟩
  | .hbm, ⟨49, _⟩ => ⟨S1x128, .f32⟩
  | .hbm, ⟨50, _⟩ => ⟨S1x1, .f32⟩
  | .hbm, ⟨51, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x1x128, .f32⟩
  | .local _ .vmem, ⟨7, _⟩ => ⟨S1x1x128, .f32⟩
  | .local _ .vmem, ⟨8, _⟩ => ⟨S1x512x2048, .f32⟩
  | .local _ .vmem, ⟨9, _⟩ => ⟨S1x512x2048, .f32⟩
  | .local _ .vmem, ⟨10, _⟩ => ⟨S1x512x2048, .f32⟩
  | .local _ .vmem, ⟨11, _⟩ => ⟨S1x512x2048, .f32⟩
  | .local _ .vmem, ⟨12, _⟩ => ⟨S1x40x64, .f32⟩
  | .local _ .vmem, ⟨13, _⟩ => ⟨S1x40x64, .f32⟩
  | .local _ .vmem, ⟨14, _⟩ => ⟨S1x40x64, .f32⟩
  | .local _ .vmem, ⟨15, _⟩ => ⟨S1x40x64, .f32⟩
  | .local _ .vmem, ⟨16, _⟩ => ⟨S8x40x64, .f32⟩
  | .local _ .vmem, ⟨17, _⟩ => ⟨S8x40x64, .f32⟩
  | .local _ .vmem, ⟨18, _⟩ => ⟨S8x32x64, .f32⟩
  | .local _ .vmem, ⟨19, _⟩ => ⟨S1x128, .f32⟩
  | .local _ .smem, ⟨0, _⟩ => ⟨S4, .f32⟩
  | .local _ .smem, ⟨1, _⟩ => ⟨S1, .f32⟩
  | _, _ => ⟨S8x1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc1_stg0_0 : Ref sig .tc := ⟨.smem, 0, rfl⟩
abbrev cc2_stg0_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc2_sem0_0 : DmaSem sig := 17
abbrev cc2_sem1_0 : DmaSem sig := 18
abbrev cc2_sem2_0 : DmaSem sig := 19
abbrev cc2_sem3_0 : DmaSem sig := 20
abbrev cc2_sem4_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

@[reducible] def k1_t1_loop : Scf.Loop 32 :=
  let c0_i32_3 : BitVec 32 := 0#32
  let c4_i32 : BitVec 32 := 4#32
  let v10 : BitVec 32 := Scalar.addi c0_i32_3 c4_i32
  let c1_i32 : BitVec 32 := 1#32
  ⟨c0_i32_3, v10, c1_i32⟩
def k1_off1 (k1_t1 : Fin k1_t1_loop.trips) : Fin 3 → Nat :=
  let c0_24 : Index := 0#32
  let c0_i32_3 : BitVec 32 := 0#32
  let c1_i32 : BitVec 32 := 1#32
  let arg7 : BitVec 32 := Scf.iv c0_i32_3 c1_i32 k1_t1
  let c128_i32 : BitVec 32 := 128#32
  let v29 : BitVec 32 := Scalar.muli arg7 c128_i32
  let v30 : Index := Scalar.indexCast v29
  let c0_25 : Index := 0#32
  ![0, v30.toNat, 0]
@[reducible] def k1_t2_loop : Scf.Loop 32 :=
  let c0_i32_14 : BitVec 32 := 0#32
  let c4_i32_15 : BitVec 32 := 4#32
  let v21 : BitVec 32 := Scalar.addi c0_i32_14 c4_i32_15
  let c1_i32_16 : BitVec 32 := 1#32
  ⟨c0_i32_14, v21, c1_i32_16⟩
def k1_off2 (k1_t2 : Fin k1_t2_loop.trips) : Fin 3 → Nat :=
  let c0_24 : Index := 0#32
  let c0_i32_14 : BitVec 32 := 0#32
  let c1_i32_16 : BitVec 32 := 1#32
  let arg7 : BitVec 32 := Scf.iv c0_i32_14 c1_i32_16 k1_t2
  let c128_i32 : BitVec 32 := 128#32
  let v29 : BitVec 32 := Scalar.muli arg7 c128_i32
  let v30 : Index := Scalar.indexCast v29
  let c0_25 : Index := 0#32
  ![0, v30.toNat, 0]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x40x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x40x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨1, ![1], ![false]⟩

def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .smem S1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S8x40x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8x40x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x32x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]
-- ==== ReferenceIdeal.lean ====
abbrev S8x1x2048x2048 : Shape := ⟨4, ![8, 1, 2048, 2048]⟩
abbrev S8x1x2048x1 : Shape := ⟨4, ![8, 1, 2048, 1]⟩
abbrev S_ : Shape := ⟨0, ![]⟩
abbrev S8x1x4194304 : Shape := ⟨3, ![8, 1, 4194304]⟩
abbrev S8 : Shape := ⟨1, ![8]⟩
abbrev S8x1x1 : Shape := ⟨3, ![8, 1, 1]⟩
abbrev S1 : Shape := ⟨1, ![1]⟩
abbrev S1x1x1 : Shape := ⟨3, ![1, 1, 1]⟩
abbrev S8x1x2048 : Shape := ⟨3, ![8, 1, 2048]⟩
abbrev S8x1x4194304x1 : Shape := ⟨4, ![8, 1, 4194304, 1]⟩
abbrev S8x1x4194304x3 : Shape := ⟨4, ![8, 1, 4194304, 3]⟩

abbrev nBuf : Space → Nat
  | .hbm => 300
  | .vmem => 0
  | .smem => 0
  | _ => 0

abbrev hbmTy0_0 (i : Nat) : BufTy := match i % 128 with
  | 0 => ⟨S8x1x2048x2048, .f32⟩
  | 1 => ⟨S8x1x2048x2048, .f32⟩
  | 2 => ⟨S8x1x2048x2048, .f32⟩
  | 3 => ⟨S8x1x2048x1, .f32⟩
  | 4 => ⟨S_, .f32⟩
  | 5 => ⟨S8x1x2048x2048, .f32⟩
  | 6 => ⟨S8x1x2048x2048, .f32⟩
  | 7 => ⟨S8x1x2048x2048, .f32⟩
  | 8 => ⟨S8x1x2048x2048, .f32⟩
  | 9 => ⟨S8x1x2048x2048, .f32⟩
  | 10 => ⟨S8x1x2048x2048, .f32⟩
  | 11 => ⟨S8x1x2048x2048, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S8x1x2048x2048, .f32⟩
  | 19 => ⟨S8x1x2048x2048, .f32⟩
  | 20 => ⟨S_, .f32⟩
  | 21 => ⟨S_, .f32⟩
  | 22 => ⟨S_, .f32⟩
  | 23 => ⟨S_, .f32⟩
  | 24 => ⟨S_, .f32⟩
  | 25 => ⟨S8x1x2048x2048, .f32⟩
  | 26 => ⟨S8x1x2048x2048, .f32⟩
  | 27 => ⟨S_, .f32⟩
  | 28 => ⟨S_, .f32⟩
  | 29 => ⟨S8x1x2048x2048, .f32⟩
  | 30 => ⟨S8x1x2048x2048, .f32⟩
  | 31 => ⟨S_, .f32⟩
  | 32 => ⟨S_, .f32⟩
  | 33 => ⟨S_, .f32⟩
  | 34 => ⟨S_, .f32⟩
  | 35 => ⟨S_, .f32⟩
  | 36 => ⟨S8x1x2048x2048, .f32⟩
  | 37 => ⟨S8x1x2048x2048, .f32⟩
  | 38 => ⟨S8x1x4194304, .f32⟩
  | 39 => ⟨S_, .f32⟩
  | 40 => ⟨S8x1x4194304, .f32⟩
  | 41 => ⟨S8x1x4194304, .f32⟩
  | 42 => ⟨S8x1x4194304, .f32⟩
  | 43 => ⟨S8x1x4194304, .i32⟩
  | 44 => ⟨S_, .i32⟩
  | 45 => ⟨S_, .i32⟩
  | 46 => ⟨S_, .i32⟩
  | 47 => ⟨S8x1x4194304, .i32⟩
  | 48 => ⟨S8x1x4194304, .i32⟩
  | 49 => ⟨S_, .i32⟩
  | 50 => ⟨S8x1x4194304, .i32⟩
  | 51 => ⟨S8x1x4194304, .i32⟩
  | 52 => ⟨S8x1x4194304, .f32⟩
  | 53 => ⟨S_, .f32⟩
  | 54 => ⟨S8x1x4194304, .f32⟩
  | 55 => ⟨S8x1x4194304, .f32⟩
  | 56 => ⟨S_, .i32⟩
  | 57 => ⟨S8x1x4194304, .i32⟩
  | 58 => ⟨S8x1x4194304, .i1⟩
  | 59 => ⟨S_, .i32⟩
  | 60 => ⟨S8x1x4194304, .i32⟩
  | 61 => ⟨S8x1x4194304, .i1⟩
  | 62 => ⟨S8x1x4194304, .i1⟩
  | 63 => ⟨S_, .f32⟩
  | 64 => ⟨S8x1x4194304, .f32⟩
  | 65 => ⟨S8x1x4194304, .f32⟩
  | 66 => ⟨S8x1x4194304, .f32⟩
  | 67 => ⟨S_, .f32⟩
  | 68 => ⟨S_, .f32⟩
  | 69 => ⟨S8x1x4194304, .f32⟩
  | 70 => ⟨S8x1x4194304, .f32⟩
  | 71 => ⟨S_, .i32⟩
  | 72 => ⟨S8x1x4194304, .i32⟩
  | 73 => ⟨S8x1x4194304, .i1⟩
  | 74 => ⟨S8x1x4194304, .f32⟩
  | 75 => ⟨S_, .f32⟩
  | 76 => ⟨S_, .f32⟩
  | 77 => ⟨S8x1x4194304, .f32⟩
  | 78 => ⟨S8x1x4194304, .f32⟩
  | 79 => ⟨S8, .i32⟩
  | 80 => ⟨S8x1x1, .i32⟩
  | 81 => ⟨S1, .i32⟩
  | 82 => ⟨S1x1x1, .i32⟩
  | 83 => ⟨S_, .f32⟩
  | 84 => ⟨S8x1x2048, .f32⟩
  | 85 => ⟨S_, .i32⟩
  | 86 => ⟨S8x1x1, .i32⟩
  | 87 => ⟨S8x1x1, .i1⟩
  | 88 => ⟨S_, .i32⟩
  | 89 => ⟨S8x1x1, .i32⟩
  | 90 => ⟨S8x1x1, .i32⟩
  | 91 => ⟨S8x1x1, .i32⟩
  | 92 => ⟨S_, .i32⟩
  | 93 => ⟨S1x1x1, .i32⟩
  | 94 => ⟨S1x1x1, .i1⟩
  | 95 => ⟨S_, .i32⟩
  | 96 => ⟨S1x1x1, .i32⟩
  | 97 => ⟨S1x1x1, .i32⟩
  | 98 => ⟨S1x1x1, .i32⟩
  | 99 => ⟨S_, .i32⟩
  | 100 => ⟨S8x1x4194304, .i32⟩
  | 101 => ⟨S8x1x4194304, .i1⟩
  | 102 => ⟨S_, .i32⟩
  | 103 => ⟨S8x1x4194304, .i32⟩
  | 104 => ⟨S8x1x4194304, .i32⟩
  | 105 => ⟨S8x1x4194304, .i32⟩
  | 106 => ⟨S8x1x4194304, .i32⟩
  | 107 => ⟨S8x1x4194304, .i32⟩
  | 108 => ⟨S8x1x4194304x1, .i32⟩
  | 109 => ⟨S8x1x4194304x1, .i32⟩
  | 110 => ⟨S8x1x4194304x1, .i32⟩
  | 111 => ⟨S8x1x4194304x3, .i32⟩
  | 112 => ⟨S8x1x2048, .f32⟩
  | 113 => ⟨S_, .i32⟩
  | 114 => ⟨S8x1x4194304, .i32⟩
  | 115 => ⟨S8x1x4194304, .i32⟩
  | 116 => ⟨S_, .i32⟩
  | 117 => ⟨S_, .i32⟩
  | 118 => ⟨S_, .i32⟩
  | 119 => ⟨S8x1x4194304, .i32⟩
  | 120 => ⟨S8x1x4194304, .i32⟩
  | 121 => ⟨S_, .i32⟩
  | 122 => ⟨S8x1x4194304, .i32⟩
  | 123 => ⟨S8x1x4194304, .i32⟩
  | 124 => ⟨S_, .i32⟩
  | 125 => ⟨S8x1x1, .i32⟩
  | 126 => ⟨S8x1x1, .i1⟩
  | 127 => ⟨S_, .i32⟩
  | _ => ⟨S8x1x2048x2048, .f32⟩

abbrev hbmTy0_1 (i : Nat) : BufTy := match i % 128 with
  | 0 => ⟨S8x1x1, .i32⟩
  | 1 => ⟨S8x1x1, .i32⟩
  | 2 => ⟨S8x1x1, .i32⟩
  | 3 => ⟨S_, .i32⟩
  | 4 => ⟨S1x1x1, .i32⟩
  | 5 => ⟨S1x1x1, .i1⟩
  | 6 => ⟨S_, .i32⟩
  | 7 => ⟨S1x1x1, .i32⟩
  | 8 => ⟨S1x1x1, .i32⟩
  | 9 => ⟨S1x1x1, .i32⟩
  | 10 => ⟨S_, .i32⟩
  | 11 => ⟨S8x1x4194304, .i32⟩
  | 12 => ⟨S8x1x4194304, .i1⟩
  | 13 => ⟨S_, .i32⟩
  | 14 => ⟨S8x1x4194304, .i32⟩
  | 15 => ⟨S8x1x4194304, .i32⟩
  | 16 => ⟨S8x1x4194304, .i32⟩
  | 17 => ⟨S8x1x4194304, .i32⟩
  | 18 => ⟨S8x1x4194304, .i32⟩
  | 19 => ⟨S8x1x4194304x1, .i32⟩
  | 20 => ⟨S8x1x4194304x1, .i32⟩
  | 21 => ⟨S8x1x4194304x1, .i32⟩
  | 22 => ⟨S8x1x4194304x3, .i32⟩
  | 23 => ⟨S8x1x2048, .f32⟩
  | 24 => ⟨S_, .f32⟩
  | 25 => ⟨S8x1x2048, .f32⟩
  | 26 => ⟨S8x1x2048, .f32⟩
  | 27 => ⟨S_, .f32⟩
  | 28 => ⟨S_, .f32⟩
  | 29 => ⟨S8x1x2048, .f32⟩
  | 30 => ⟨S8x1x2048, .f32⟩
  | 31 => ⟨S8x1x4194304, .f32⟩
  | 32 => ⟨S_, .f32⟩
  | 33 => ⟨S8x1x4194304, .f32⟩
  | 34 => ⟨S8x1x4194304, .f32⟩
  | 35 => ⟨S8x1x4194304, .f32⟩
  | 36 => ⟨S8x1x4194304, .i32⟩
  | 37 => ⟨S_, .i32⟩
  | 38 => ⟨S_, .i32⟩
  | 39 => ⟨S_, .i32⟩
  | 40 => ⟨S8x1x4194304, .i32⟩
  | 41 => ⟨S8x1x4194304, .i32⟩
  | 42 => ⟨S_, .i32⟩
  | 43 => ⟨S8x1x4194304, .i32⟩
  | 44 => ⟨S8x1x4194304, .i32⟩
  | 45 => ⟨S8x1x4194304, .f32⟩
  | 46 => ⟨S_, .f32⟩
  | 47 => ⟨S8x1x4194304, .f32⟩
  | 48 => ⟨S8x1x4194304, .f32⟩
  | 49 => ⟨S_, .i32⟩
  | 50 => ⟨S8x1x4194304, .i32⟩
  | 51 => ⟨S8x1x4194304, .i1⟩
  | 52 => ⟨S_, .i32⟩
  | 53 => ⟨S8x1x4194304, .i32⟩
  | 54 => ⟨S8x1x4194304, .i1⟩
  | 55 => ⟨S8x1x4194304, .i1⟩
  | 56 => ⟨S_, .f32⟩
  | 57 => ⟨S8x1x4194304, .f32⟩
  | 58 => ⟨S8x1x4194304, .f32⟩
  | 59 => ⟨S8x1x4194304, .f32⟩
  | 60 => ⟨S_, .f32⟩
  | 61 => ⟨S_, .f32⟩
  | 62 => ⟨S8x1x4194304, .f32⟩
  | 63 => ⟨S8x1x4194304, .f32⟩
  | 64 => ⟨S_, .i32⟩
  | 65 => ⟨S8x1x4194304, .i32⟩
  | 66 => ⟨S8x1x4194304, .i1⟩
  | 67 => ⟨S8x1x4194304, .f32⟩
  | 68 => ⟨S_, .f32⟩
  | 69 => ⟨S_, .f32⟩
  | 70 => ⟨S8x1x4194304, .f32⟩
  | 71 => ⟨S8x1x4194304, .f32⟩
  | 72 => ⟨S8, .i32⟩
  | 73 => ⟨S8x1x1, .i32⟩
  | 74 => ⟨S1, .i32⟩
  | 75 => ⟨S1x1x1, .i32⟩
  | 76 => ⟨S_, .f32⟩
  | 77 => ⟨S8x1x2048, .f32⟩
  | 78 => ⟨S_, .i32⟩
  | 79 => ⟨S8x1x1, .i32⟩
  | 80 => ⟨S8x1x1, .i1⟩
  | 81 => ⟨S_, .i32⟩
  | 82 => ⟨S8x1x1, .i32⟩
  | 83 => ⟨S8x1x1, .i32⟩
  | 84 => ⟨S8x1x1, .i32⟩
  | 85 => ⟨S_, .i32⟩
  | 86 => ⟨S1x1x1, .i32⟩
  | 87 => ⟨S1x1x1, .i1⟩
  | 88 => ⟨S_, .i32⟩
  | 89 => ⟨S1x1x1, .i32⟩
  | 90 => ⟨S1x1x1, .i32⟩
  | 91 => ⟨S1x1x1, .i32⟩
  | 92 => ⟨S_, .i32⟩
  | 93 => ⟨S8x1x4194304, .i32⟩
  | 94 => ⟨S8x1x4194304, .i1⟩
  | 95 => ⟨S_, .i32⟩
  | 96 => ⟨S8x1x4194304, .i32⟩
  | 97 => ⟨S8x1x4194304, .i32⟩
  | 98 => ⟨S8x1x4194304, .i32⟩
  | 99 => ⟨S8x1x4194304, .i32⟩
  | 100 => ⟨S8x1x4194304, .i32⟩
  | 101 => ⟨S8x1x4194304x1, .i32⟩
  | 102 => ⟨S8x1x4194304x1, .i32⟩
  | 103 => ⟨S8x1x4194304x1, .i32⟩
  | 104 => ⟨S8x1x4194304x3, .i32⟩
  | 105 => ⟨S8x1x2048, .f32⟩
  | 106 => ⟨S_, .i32⟩
  | 107 => ⟨S8x1x4194304, .i32⟩
  | 108 => ⟨S8x1x4194304, .i32⟩
  | 109 => ⟨S_, .i32⟩
  | 110 => ⟨S_, .i32⟩
  | 111 => ⟨S_, .i32⟩
  | 112 => ⟨S8x1x4194304, .i32⟩
  | 113 => ⟨S8x1x4194304, .i32⟩
  | 114 => ⟨S_, .i32⟩
  | 115 => ⟨S8x1x4194304, .i32⟩
  | 116 => ⟨S8x1x4194304, .i32⟩
  | 117 => ⟨S_, .i32⟩
  | 118 => ⟨S8x1x1, .i32⟩
  | 119 => ⟨S8x1x1, .i1⟩
  | 120 => ⟨S_, .i32⟩
  | 121 => ⟨S8x1x1, .i32⟩
  | 122 => ⟨S8x1x1, .i32⟩
  | 123 => ⟨S8x1x1, .i32⟩
  | 124 => ⟨S_, .i32⟩
  | 125 => ⟨S1x1x1, .i32⟩
  | 126 => ⟨S1x1x1, .i1⟩
  | 127 => ⟨S_, .i32⟩
  | _ => ⟨S8x1x2048x2048, .f32⟩

abbrev hbmTy0_2 (i : Nat) : BufTy := match i % 128 with
  | 0 => ⟨S1x1x1, .i32⟩
  | 1 => ⟨S1x1x1, .i32⟩
  | 2 => ⟨S1x1x1, .i32⟩
  | 3 => ⟨S_, .i32⟩
  | 4 => ⟨S8x1x4194304, .i32⟩
  | 5 => ⟨S8x1x4194304, .i1⟩
  | 6 => ⟨S_, .i32⟩
  | 7 => ⟨S8x1x4194304, .i32⟩
  | 8 => ⟨S8x1x4194304, .i32⟩
  | 9 => ⟨S8x1x4194304, .i32⟩
  | 10 => ⟨S8x1x4194304, .i32⟩
  | 11 => ⟨S8x1x4194304, .i32⟩
  | 12 => ⟨S8x1x4194304x1, .i32⟩
  | 13 => ⟨S8x1x4194304x1, .i32⟩
  | 14 => ⟨S8x1x4194304x1, .i32⟩
  | 15 => ⟨S8x1x4194304x3, .i32⟩
  | 16 => ⟨S8x1x2048, .f32⟩
  | 17 => ⟨S_, .f32⟩
  | 18 => ⟨S8x1x2048, .f32⟩
  | 19 => ⟨S8x1x2048, .f32⟩
  | 20 => ⟨S_, .f32⟩
  | 21 => ⟨S_, .f32⟩
  | 22 => ⟨S8x1x2048, .f32⟩
  | 23 => ⟨S8x1x2048, .f32⟩
  | 24 => ⟨S8x1x2048, .f32⟩
  | 25 => ⟨S8x1x2048, .f32⟩
  | 26 => ⟨S8x1x2048, .f32⟩
  | 27 => ⟨S8x1x2048, .f32⟩
  | 28 => ⟨S8x1x2048, .f32⟩
  | 29 => ⟨S_, .f32⟩
  | 30 => ⟨S8x1x2048, .f32⟩
  | 31 => ⟨S8x1x2048, .f32⟩
  | 32 => ⟨S8x1x2048, .f32⟩
  | 33 => ⟨S8x1x2048, .f32⟩
  | 34 => ⟨S8x1x2048, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | _ => ⟨S8x1x2048x2048, .f32⟩

abbrev hbmTy (i : Nat) : BufTy := match i / 128 with
  | 0 => hbmTy0_0 i
  | 1 => hbmTy0_1 i
  | 2 => hbmTy0_2 i
  | _ => ⟨S8x1x2048x2048, .f32⟩

abbrev bufTy : (tb : Table) → Fin (tcTables nBuf tb) → BufTy
  | .hbm, ⟨i, _⟩ => hbmTy i
  | _, _ => ⟨S8x1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c : Ref sig .tc := ⟨.hbm, 44, rfl⟩
abbrev main_c_9 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v30 : Ref sig .tc := ⟨.hbm, 51, rfl⟩
abbrev main_v31 : Ref sig .tc := ⟨.hbm, 52, rfl⟩
abbrev main_cst_10 : Ref sig .tc := ⟨.hbm, 53, rfl⟩
abbrev main_v32 : Ref sig .tc := ⟨.hbm, 54, rfl⟩
abbrev main_v33 : Ref sig .tc := ⟨.hbm, 55, rfl⟩
abbrev main_c_11 : Ref sig .tc := ⟨.hbm, 56, rfl⟩
abbrev main_v34 : Ref sig .tc := ⟨.hbm, 57, rfl⟩
abbrev main_v35 : Ref sig .tc := ⟨.hbm, 58, rfl⟩
abbrev main_c_12 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_13 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_14 : Ref sig .tc := ⟨.hbm, 67, rfl⟩
abbrev main_call1_v0 : Ref sig .tc := ⟨.hbm, 68, rfl⟩
abbrev main_call1_v1 : Ref sig .tc := ⟨.hbm, 69, rfl⟩
abbrev main_v42 : Ref sig .tc := ⟨.hbm, 70, rfl⟩
abbrev main_c_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_call2_v0 : Ref sig .tc := ⟨.hbm, 76, rfl⟩
abbrev main_call2_v1 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_17 : Ref sig .tc := ⟨.hbm, 83, rfl⟩
abbrev main_v51 : Ref sig .tc := ⟨.hbm, 84, rfl⟩
abbrev main_c_18 : Ref sig .tc := ⟨.hbm, 85, rfl⟩
abbrev main_v52 : Ref sig .tc := ⟨.hbm, 86, rfl⟩
abbrev main_v53 : Ref sig .tc := ⟨.hbm, 87, rfl⟩
abbrev main_c_19 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_20 : Ref sig .tc := ⟨.hbm, 92, rfl⟩
abbrev main_v57 : Ref sig .tc := ⟨.hbm, 93, rfl⟩
abbrev main_v58 : Ref sig .tc := ⟨.hbm, 94, rfl⟩
abbrev main_c_21 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c_22 : Ref sig .tc := ⟨.hbm, 99, rfl⟩
abbrev main_v62 : Ref sig .tc := ⟨.hbm, 100, rfl⟩
abbrev main_v63 : Ref sig .tc := ⟨.hbm, 101, rfl⟩
abbrev main_c_23 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_c_24 : Ref sig .tc := ⟨.hbm, 113, rfl⟩
abbrev main_v74 : Ref sig .tc := ⟨.hbm, 114, rfl⟩
abbrev main_v75 : Ref sig .tc := ⟨.hbm, 115, rfl⟩
abbrev main_c_25 : Ref sig .tc := ⟨.hbm, 116, rfl⟩
abbrev main_c_26 : Ref sig .tc := ⟨.hbm, 117, rfl⟩
abbrev main_call3_v0 : Ref sig .tc := ⟨.hbm, 118, rfl⟩
abbrev main_call3_v1 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_v76 : Ref sig .tc := ⟨.hbm, 123, rfl⟩
abbrev main_c_27 : Ref sig .tc := ⟨.hbm, 124, rfl⟩
abbrev main_v77 : Ref sig .tc := ⟨.hbm, 125, rfl⟩
abbrev main_v78 : Ref sig .tc := ⟨.hbm, 126, rfl⟩
abbrev main_c_28 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_c_29 : Ref sig .tc := ⟨.hbm, 131, rfl⟩
abbrev main_v82 : Ref sig .tc := ⟨.hbm, 132, rfl⟩
abbrev main_v83 : Ref sig .tc := ⟨.hbm, 133, rfl⟩
abbrev main_c_30 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_c_31 : Ref sig .tc := ⟨.hbm, 138, rfl⟩
abbrev main_v87 : Ref sig .tc := ⟨.hbm, 139, rfl⟩
abbrev main_v88 : Ref sig .tc := ⟨.hbm, 140, rfl⟩
abbrev main_c_32 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_cst_33 : Ref sig .tc := ⟨.hbm, 152, rfl⟩
abbrev main_v99 : Ref sig .tc := ⟨.hbm, 153, rfl⟩
abbrev main_v100 : Ref sig .tc := ⟨.hbm, 154, rfl⟩
abbrev main_cst_34 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_cst_35 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_c_36 : Ref sig .tc := ⟨.hbm, 165, rfl⟩
abbrev main_c_37 : Ref sig .tc := ⟨.hbm, 166, rfl⟩
abbrev main_call4_v0 : Ref sig .tc := ⟨.hbm, 167, rfl⟩
abbrev main_call4_v1 : Ref sig .tc := ⟨.hbm, 168, rfl⟩
abbrev main_call4_v2 : Ref sig .tc := ⟨.hbm, 169, rfl⟩
abbrev main_call4_v3 : Ref sig .tc := ⟨.hbm, 170, rfl⟩
abbrev main_call4_v4 : Ref sig .tc := ⟨.hbm, 171, rfl⟩
abbrev main_v109 : Ref sig .tc := ⟨.hbm, 172, rfl⟩
abbrev main_v110 : Ref sig .tc := ⟨.hbm, 173, rfl⟩
abbrev main_cst_38 : Ref sig .tc := ⟨.hbm, 174, rfl⟩
abbrev main_v111 : Ref sig .tc := ⟨.hbm, 175, rfl⟩
abbrev main_v112 : Ref sig .tc := ⟨.hbm, 176, rfl⟩
abbrev main_c_39 : Ref sig .tc := ⟨.hbm, 177, rfl⟩
abbrev main_v113 : Ref sig .tc := ⟨.hbm, 178, rfl⟩
abbrev main_v114 : Ref sig .tc := ⟨.hbm, 179, rfl⟩
abbrev main_c_40 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_cst_41 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_cst_42 : Ref sig .tc := ⟨.hbm, 188, rfl⟩
abbrev main_call5_v0 : Ref sig .tc := ⟨.hbm, 189, rfl⟩
abbrev main_call5_v1 : Ref sig .tc := ⟨.hbm, 190, rfl⟩
abbrev main_v121 : Ref sig .tc := ⟨.hbm, 191, rfl⟩
abbrev main_c_43 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_44 : Ref sig .tc := ⟨.hbm, 196, rfl⟩
abbrev main_call6_v0 : Ref sig .tc := ⟨.hbm, 197, rfl⟩
abbrev main_call6_v1 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_cst_45 : Ref sig .tc := ⟨.hbm, 204, rfl⟩
abbrev main_v130 : Ref sig .tc := ⟨.hbm, 205, rfl⟩
abbrev main_c_46 : Ref sig .tc := ⟨.hbm, 206, rfl⟩
abbrev main_v131 : Ref sig .tc := ⟨.hbm, 207, rfl⟩
abbrev main_v132 : Ref sig .tc := ⟨.hbm, 208, rfl⟩
abbrev main_c_47 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_c_48 : Ref sig .tc := ⟨.hbm, 213, rfl⟩
abbrev main_v136 : Ref sig .tc := ⟨.hbm, 214, rfl⟩
abbrev main_v137 : Ref sig .tc := ⟨.hbm, 215, rfl⟩
abbrev main_c_49 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_c_50 : Ref sig .tc := ⟨.hbm, 220, rfl⟩
abbrev main_v141 : Ref sig .tc := ⟨.hbm, 221, rfl⟩
abbrev main_v142 : Ref sig .tc := ⟨.hbm, 222, rfl⟩
abbrev main_c_51 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_c_52 : Ref sig .tc := ⟨.hbm, 234, rfl⟩
abbrev main_v153 : Ref sig .tc := ⟨.hbm, 235, rfl⟩
abbrev main_v154 : Ref sig .tc := ⟨.hbm, 236, rfl⟩
abbrev main_c_53 : Ref sig .tc := ⟨.hbm, 237, rfl⟩
abbrev main_c_54 : Ref sig .tc := ⟨.hbm, 238, rfl⟩
abbrev main_call7_v0 : Ref sig .tc := ⟨.hbm, 239, rfl⟩
abbrev main_call7_v1 : Ref sig .tc := ⟨.hbm, 240, rfl⟩
abbrev main_call7_v2 : Ref sig .tc := ⟨.hbm, 241, rfl⟩
abbrev main_call7_v3 : Ref sig .tc := ⟨.hbm, 242, rfl⟩
abbrev main_call7_v4 : Ref sig .tc := ⟨.hbm, 243, rfl⟩
abbrev main_v155 : Ref sig .tc := ⟨.hbm, 244, rfl⟩
abbrev main_c_55 : Ref sig .tc := ⟨.hbm, 245, rfl⟩
abbrev main_v156 : Ref sig .tc := ⟨.hbm, 246, rfl⟩
abbrev main_v157 : Ref sig .tc := ⟨.hbm, 247, rfl⟩
abbrev main_c_56 : Ref sig .tc := ⟨.hbm, 248, rfl⟩
abbrev main_v158 : Ref sig .tc := ⟨.hbm, 249, rfl⟩
abbrev main_v159 : Ref sig .tc := ⟨.hbm, 250, rfl⟩
abbrev main_v160 : Ref sig .tc := ⟨.hbm, 251, rfl⟩
abbrev main_c_57 : Ref sig .tc := ⟨.hbm, 252, rfl⟩
abbrev main_v161 : Ref sig .tc := ⟨.hbm, 253, rfl⟩
abbrev main_v162 : Ref sig .tc := ⟨.hbm, 254, rfl⟩
abbrev main_c_58 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_c_59 : Ref sig .tc := ⟨.hbm, 259, rfl⟩
abbrev main_v166 : Ref sig .tc := ⟨.hbm, 260, rfl⟩
abbrev main_v167 : Ref sig .tc := ⟨.hbm, 261, rfl⟩
abbrev main_c_60 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_v176 : Ref sig .tc := ⟨.hbm, 271, rfl⟩
abbrev main_v177 : Ref sig .tc := ⟨.hbm, 272, rfl⟩
abbrev main_cst_61 : Ref sig .tc := ⟨.hbm, 273, rfl⟩
abbrev main_v178 : Ref sig .tc := ⟨.hbm, 274, rfl⟩
abbrev main_v179 : Ref sig .tc := ⟨.hbm, 275, rfl⟩
abbrev main_cst_62 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_v183 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_v187 : Ref sig .tc := ⟨.hbm, 284, rfl⟩
abbrev main_cst_63 : Ref sig .tc := ⟨.hbm, 285, rfl⟩
abbrev main_v188 : Ref sig .tc := ⟨.hbm, 286, rfl⟩
abbrev main_v189 : Ref sig .tc := ⟨.hbm, 287, rfl⟩
abbrev main_v190 : Ref sig .tc := ⟨.hbm, 288, rfl⟩
abbrev main_v191 : Ref sig .tc := ⟨.hbm, 289, rfl⟩
abbrev main_v192 : Ref sig .tc := ⟨.hbm, 290, rfl⟩
abbrev main_cst_64 : Ref sig .tc := ⟨.hbm, 291, rfl⟩
abbrev main_v193 : Ref sig .tc := ⟨.hbm, 292, rfl⟩
abbrev main_cst_65 : Ref sig .tc := ⟨.hbm, 293, rfl⟩
abbrev main_v194 : Ref sig .tc := ⟨.hbm, 294, rfl⟩
abbrev main_cst_66 : Ref sig .tc := ⟨.hbm, 295, rfl⟩
abbrev main_v195 : Ref sig .tc := ⟨.hbm, 296, rfl⟩
abbrev main_cst_67 : Ref sig .tc := ⟨.hbm, 297, rfl⟩
abbrev main_v196 : Ref sig .tc := ⟨.hbm, 298, rfl⟩
abbrev main_v197 : Ref sig .tc := ⟨.hbm, 299, rfl⟩

abbrev nD : Nat := 1
abbrev τ : Topo := Topo.v7x

variable {F : FTy → Type} [FloatOps F]
-- ==== Proof.Shared.lean ====
/- The values both programs end in, and folds of extrema as infima and suprema. -/
module

public import Idealize.ShloMosaic.Lib.Pipeline.ValueKit

@[expose] public section

noncomputable section

namespace Cert.Shared

open Idealize.ShloMosaic

/-- The constants that start the folds are the two infinities. -/
theorem top_bits : Ideal.ofBits .f32 0x7F800000#32 = ⊤ := by simp [Ideal.ofBits, Ideal.ieee]
theorem bot_bits : Ideal.ofBits .f32 0xFF800000#32 = ⊥ := by simp [Ideal.ofBits, Ideal.ieee]

/-- A fold of `min` from plus infinity is an infimum, and one of `max` from minus infinity a supremum. -/
theorem fold_min {ι : Type} [Fintype ι] (f : ι → EReal) : Finset.fold min (Ideal.ofBits .f32 0x7F800000#32) f Finset.univ = ⨅ i, f i := by
  rw [top_bits]; exact Finset.inf_univ_eq_iInf f
theorem fold_max {ι : Type} [Fintype ι] (f : ι → EReal) : Finset.fold max (Ideal.ofBits .f32 0xFF800000#32) f Finset.univ = ⨆ i, f i := by
  rw [bot_bits]; exact Finset.sup_univ_eq_iSup f

/-- A difference `m` weighted both ways: `|m|·w' + |m|/w'` for the shifted weight `w' = w + 1e-6`. -/
def weighted (m w : EReal) : EReal :=
  FloatOps.absf (F := Ideal) (φ := .f32) m * (w + Ideal.ofBits .f32 0x358637BD#32) +
    Ideal.div (FloatOps.absf (F := Ideal) (φ := .f32) m) (w + Ideal.ofBits .f32 0x358637BD#32)

/-- All the mass of a stack of eight histograms. -/
def total (P : Fin 8 → Fin 2048 → EReal) : EReal := ∑ b, ∑ k, P b k

/-- The loss: four times the pixel term `l`, plus the mean weighted divergence of the two normalised histograms. -/
def finish (P G W : Fin 8 → Fin 2048 → EReal) (l : EReal) : EReal :=
  Ideal.ofBits .f32 0x40800000#32 * l + Ideal.div
    (∑ b, ∑ k, weighted (FloatOps.exp (F := Ideal) (φ := .f32) (Ideal.div (G b k) (total G)) * (Ideal.div (G b k) (total G) - Ideal.div (P b k) (total P))) (W b k))
    (Ideal.ofBits .f32 0x46800000#32)

/-- The infimum of a line cut into `S` blocks of `n` is the infimum over the blocks of the blocks' infima. -/
theorem iInf_mul_add {S n L : ℕ} (e : S * n = L) (F : Fin S → Fin n → EReal) (f : Fin L → EReal)
    (h : ∀ s k hl, F s k = f ⟨s.val * n + k.val, hl⟩) : ⨅ s, ⨅ k, F s k = ⨅ l, f l := by
  subst e
  refine (iInf_prod (f := fun p : Fin S × Fin n => F p.1 p.2)).symm.trans (finProdFinEquiv.iInf_congr fun p => ?_)
  have e : finProdFinEquiv p = ⟨p.1.val * n + p.2.val, by have := (finProdFinEquiv p).isLt; simpa [add_comm, mul_comm] using this⟩ :=
    Fin.ext (by simp [add_comm, mul_comm])
  rw [e, h]

/-- The same for suprema. -/
theorem iSup_mul_add {S n L : ℕ} (e : S * n = L) (F : Fin S → Fin n → EReal) (f : Fin L → EReal)
    (h : ∀ s k hl, F s k = f ⟨s.val * n + k.val, hl⟩) : ⨆ s, ⨆ k, F s k = ⨆ l, f l := by
  subst e
  refine (iSup_prod (f := fun p : Fin S × Fin n => F p.1 p.2)).symm.trans (finProdFinEquiv.iSup_congr fun p => ?_)
  have e : finProdFinEquiv p = ⟨p.1.val * n + p.2.val, by have := (finProdFinEquiv p).isLt; simpa [add_comm, mul_comm] using this⟩ :=
    Fin.ext (by simp [add_comm, mul_comm])
  rw [e, h]

/-- A stack of eight images of 2048 rows of 2048 pixels: its pixel loss against another under weights, its least and its greatest value. -/
def pixLoss (X Y W : Fin 8 → Fin 2048 → Fin 2048 → EReal) : EReal := ∑ b, ∑ h, ∑ l, weighted (X b h l - Y b h l) (W b h l)
def lo (X : Fin 8 → Fin 2048 → Fin 2048 → EReal) : EReal := ⨅ b, ⨅ h, ⨅ l, X b h l
def hi (X : Fin 8 → Fin 2048 → Fin 2048 → EReal) : EReal := ⨆ b, ⨆ h, ⨆ l, X b h l

end Cert.Shared
-- ==== Proof.Stats.lean ====
/- The first call: per-block loss sums and extrema, lane by lane. -/
module

public import proofs.«01_k».proof.Proof.Shared
public import proofs.«01_k».proof.Proof.Gen.KernelIdeal.Frame

@[expose] public section

set_option maxRecDepth 16384

noncomputable section

namespace Cert.KernelIdeal.Stats

open Cert.KernelIdeal Cert.KernelIdeal.Gen
open Cert.Shared Idealize.ShloMosaic Idealize.ShloMosaic.TcCoe Idealize.SL.Sem
open Idealize.ShloMosaic.Pipeline (Dat)

theorem pay4_apply (x y w : Vec Ideal S512x2048 .f32) :
    k0_pay4 x y w = ∑ r : Fin 512, ∑ l : Fin 2048, weighted (x (ix2 r l) - y (ix2 r l)) (w (ix2 r l)) := by
  pointwise [k0_pay4, k0_pay2, k0_pay3, weighted]

theorem pay7_apply (x : Vec Ideal S512x2048 .f32) : k0_pay7 x = ⨅ r : Fin 512, ⨅ l : Fin 2048, x (ix2 r l) := by
  pointwise [k0_pay7, k0_pay2]
  exact (fold_min _).trans iInf_prod

theorem pay9_apply (x : Vec Ideal S512x2048 .f32) : k0_pay9 x = ⨆ r : Fin 512, ⨆ l : Fin 2048, x (ix2 r l) := by
  pointwise [k0_pay9, k0_pay2]
  exact (fold_max _).trans iSup_prod

theorem pay11_apply (x : Vec Ideal S512x2048 .f32) : k0_pay11 x = ⨆ r : Fin 512, ⨆ l : Fin 2048, x (ix2 r l) := by
  pointwise [k0_pay11, k0_pay3]
  exact (fold_max _).trans iSup_prod

theorem pay12_apply (x : Vec Ideal S512x2048 .f32) (y : S1x1x128.Idx) : k0_pay12 x y = ⨅ r : Fin 512, ⨅ l : Fin 2048, x (ix2 r l) := by
  pointwise [k0_pay12, k0_pay3]
  exact (fold_min _).trans iInf_prod

/-- Lane `n` holds the `n`-th of the five statistics. -/
def lane (a b c d e : EReal) (n : ℕ) : EReal :=
  if n = 0 then a else if n = 1 then b else if n = 2 then c else if n = 3 then d else e

theorem sel (n k : ℕ) (hn : n < 128) (hk : k < 128) (a b : EReal) :
    Scalar.select (IntOp.cmpi .eq (BitVec.ofNat 32 n) (BitVec.ofNat 32 k)) a b = if n = k then a else b := by
  have : (BitVec.ofNat 32 n = BitVec.ofNat 32 k) ↔ n = k := by
    constructor
    · intro h
      have := congrArg BitVec.toNat h
      simpa [Nat.mod_eq_of_lt (show n < 4294967296 by omega), Nat.mod_eq_of_lt (show k < 4294967296 by omega)] using this
    · rintro rfl; rfl
  by_cases h : n = k
  · simp [Scalar.select, IntOp.cmpi, h]
  · have h' : (BitVec.ofNat 32 n == BitVec.ofNat 32 k) = false := by rw [beq_eq_false_iff_ne]; exact fun e => h (this.mp e)
    simp [Scalar.select, IntOp.cmpi, h, h']

theorem pay1_apply (a b c d : EReal) (e : FVec Ideal S1x1x128 .f32) (z z' : Fin 1) (n : Fin 128) :
    k0_pay1 (F := Ideal) a k0_pay5 k0_pay6 b k0_pay8 c k0_pay10 d e (ix3 z z' n) = lane a b c (e (ix3 z z' n)) d n.val := by
  pointwise [k0_pay1, k0_pay5, k0_pay6, k0_pay8, k0_pay10]
  unfold lane
  exact (sel n.val 0 n.isLt (by omega) _ _).trans (congrArg (ite _ _) ((sel n.val 1 n.isLt (by omega) _ _).trans (congrArg (ite _ _)
    ((sel n.val 2 n.isLt (by omega) _ _).trans (congrArg (ite _ _) (sel n.val 3 n.isLt (by omega) _ _))))))

variable (V : (c : Dev nD) → (b : Ref sig .tc) → Buf (Elt Ideal) ((c : Thread nD τ).loc b))

/-- The statistics of the 512 rows of block `b`. -/
def blkLoss (x y w : Vec Ideal S16384x2048 .f32) (b : Fin 32) : EReal :=
  ∑ r : Fin 512, ∑ l : Fin 2048, weighted (x (ix2 ⟨b.val * 512 + r.val, by omega⟩ l) - y (ix2 ⟨b.val * 512 + r.val, by omega⟩ l)) (w (ix2 ⟨b.val * 512 + r.val, by omega⟩ l))
def blkMin (x : Vec Ideal S16384x2048 .f32) (b : Fin 32) : EReal :=
  ⨅ r : Fin 512, ⨅ l : Fin 2048, x (ix2 ⟨b.val * 512 + r.val, by omega⟩ l)
def blkMax (x : Vec Ideal S16384x2048 .f32) (b : Fin 32) : EReal :=
  ⨆ r : Fin 512, ⨆ l : Fin 2048, x (ix2 ⟨b.val * 512 + r.val, by omega⟩ l)

theorem widx0 : ∀ t : Fin cfg0.N, win0_0.index t = ![t.val, 0] := (by decide +kernel : ∀ t : Fin grid0.N, _)
theorem widx1 : ∀ t : Fin cfg0.N, win0_1.index t = ![t.val, 0] := (by decide +kernel : ∀ t : Fin grid0.N, _)
theorem widx2 : ∀ t : Fin cfg0.N, win0_2.index t = ![t.val, 0] := (by decide +kernel : ∀ t : Fin grid0.N, _)
theorem widx3 : ∀ t : Fin cfg0.N, win0_3.index t = ![t.val, 0, 0] := (by decide +kernel : ∀ t : Fin grid0.N, _)

theorem rd0 (c : Dev nD) (t : Fin cfg0.N) (b : Fin 32) (hb : b.val = t.val) (r : Fin 512) (l : Fin 2048) :
    iblk0 V c 0 t (ix2 r l) = V c main_v0 (ix2 ⟨b.val * 512 + r.val, by omega⟩ l) := by blk_point [iblk0, widx0 t]
theorem rd1 (c : Dev nD) (t : Fin cfg0.N) (b : Fin 32) (hb : b.val = t.val) (r : Fin 512) (l : Fin 2048) :
    iblk0 V c 1 t (ix2 r l) = V c main_v1 (ix2 ⟨b.val * 512 + r.val, by omega⟩ l) := by blk_point [iblk0, widx1 t]
theorem rd2 (c : Dev nD) (t : Fin cfg0.N) (b : Fin 32) (hb : b.val = t.val) (r : Fin 512) (l : Fin 2048) :
    iblk0 V c 2 t (ix2 r l) = V c main_v2 (ix2 ⟨b.val * 512 + r.val, by omega⟩ l) := by blk_point [iblk0, widx2 t]

/-- The first call's array: block `b`'s loss sum, minima and maxima in lanes 0 to 4. -/
theorem arr3 (c : Dev nD) : (dat0 V c).arrAt 3 cfg0.N = fun y : S32x1x128.Idx =>
    lane (blkLoss (V c main_v0) (V c main_v1) (V c main_v2) (y 0)) (blkMin (V c main_v0) (y 0)) (blkMax (V c main_v0) (y 0))
      (blkMin (V c main_v1) (y 0)) (blkMax (V c main_v1) (y 0)) (y 2).val := by
  refine (dat0 V c).arrAt_eq_of_covers 3 _ (by decide +kernel) fun t hf y => ?_
  blk_simp
  rw [after0_3]
  frame_out
  have hb : ((win0_3.blk t).view.emb y 0 : Fin 32).val = t.val := by
    have := (y 0).isLt
    blk_simp [widx3 t]
  have e2 : win0_3.index t 2 * 128 + (y 2).val = (y 2).val := by simp [widx3 t]
  have e : y = ix3 (y 0) (y 1) (y 2) := by funext a; fin_cases a <;> rfl
  refine (congrArg (k0_pay1 (F := Ideal) _ _ _ _ _ _ _ _ _) e).trans ?_
  refine (pay1_apply _ _ _ _ _ _ _ _).trans ?_
  rw [pay4_apply, pay7_apply, pay9_apply, pay11_apply, pay12_apply]
  simp only [rd0 V c t _ hb, rd1 V c t _ hb, rd2 V c t _ hb]
  exact congrArg (lane _ _ _ _ _) e2.symm

end Cert.KernelIdeal.Stats
-- ==== Proof.Trip.lean ====
/- One trip of the histogram call's row loops: 128 rows of pixels, each adding one product of a
   weight matrix by a one-hot matrix to the 40 × 64 table that the loop carries. -/
module

public import proofs.«01_k».proof.Proof.Gen.KernelIdeal.Loops
public import Idealize.ShloMosaic.Lib.Pipeline.ValueKit

@[expose] public section

set_option maxRecDepth 65536

noncomputable section

namespace Cert.KernelIdeal.Hist

open Cert.KernelIdeal Cert.KernelIdeal.Gen
open Idealize.ShloMosaic Idealize.ShloMosaic.TcCoe Idealize.SL.Sem

variable {F : FTy → Type} [FloatOps F]

/-- Row `n` of a [128, 2048] array is a slice of it. -/
theorem row_slices (n : Fin 128) : S128x2048.Slices ![n.val, 0] S1x2048 := by
  revert n; decide +kernel

/-- The table after one more row of pixels: `within` holds each pixel's place inside its group of 32
    bins, `group` its group; the weight is one less the distance from the table's row, or zero. -/
def rowStep (rowIds : FVec F S40x2048 .bf16) (colIds : FVec F S64x2048 .bf16) (one zero : F .bf16)
    (within group : FVec F S128x2048 .bf16) (n : Fin 128) (acc : FVec F S40x64 .f32) : FVec F S40x64 .f32 :=
  addf acc (matmul dot_S40x2048_S64x2048_S40x64_1_1_0_0_n_n none
    (truncf .fp8e4m3 (maximumf (subf (broadcast S40x2048 one) (absf (subf (broadcastTo S40x2048 (extractStridedSlice S1x2048 ![n.val, 0] within (row_slices n)) broadcasts_S1x2048_S40x2048) rowIds))) (broadcast S40x2048 zero)) bitsLt_fp8e4m3_bf16)
    (truncf .fp8e4m3 (select (cmpf .oeq (broadcastTo S64x2048 (extractStridedSlice S1x2048 ![n.val, 0] group (row_slices n)) broadcasts_S1x2048_S64x2048) colIds) (broadcast S64x2048 one) (broadcast S64x2048 zero)) bitsLt_fp8e4m3_bf16)
    (constant S40x64 .f32 0x00000000#32))

/-- The table after the first `n` rows. -/
def rows (rowIds : FVec F S40x2048 .bf16) (colIds : FVec F S64x2048 .bf16) (one zero : F .bf16)
    (within group : FVec F S128x2048 .bf16) (acc : FVec F S40x64 .f32) : (n : ℕ) → n ≤ 128 → FVec F S40x64 .f32
  | 0, _ => acc
  | n + 1, h => rowStep rowIds colIds one zero within group ⟨n, h⟩ (rows rowIds colIds one zero within group acc n (Nat.le_of_succ_le h))

/-- A trip of the first image's loop takes the carried table through its 128 rows. -/
theorem trip1_eq (𝒱 : Variants) (c : Dev nD) (bd : Option 𝒱.V) (i : grid1.Coords) (arg2 : Memref sig .tc .smem S4 .f32) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x40x64 .f32) (harg5 : arg5.IsWhole) (arg6 : Memref sig .tc .vmem S1x40x64 .f32) (harg6 : arg6.IsWhole)
    (v7 v8 : Elt F .f32) (X : BufTy.Contents (Elt F) arg3.view.ty) (k : Fin k1_t1_loop.trips) (acc : FVec F S40x64 .f32) :
    tripR_k1_t1 𝒱 c bd i arg2 harg2 arg3 harg3 arg4 harg4 arg5 harg5 arg6 harg6 v7 v8 (Scalar.ofBits .bf16 0x3F80#16) (Scalar.ofBits .bf16 0x0000#16) X k acc
      = rows k1_pay258 k1_pay259 (Scalar.ofBits .bf16 0x3F80#16) (Scalar.ofBits .bf16 0x0000#16)
          (k1_pay4 v7 v8 (arg3.view.readAt (Elt F) (Rect.unit (s := S1x512x2048) (k1_off1 k) S1x128x2048.size (k1_off1_inb k)).toLoadRect X))
          (k1_pay5 v7 v8 (arg3.view.readAt (Elt F) (Rect.unit (s := S1x512x2048) (k1_off1 k) S1x128x2048.size (k1_off1_inb k)).toLoadRect X))
          acc 128 (Nat.le_refl _) := by
  sl_kernel_rfl

/-- A trip of the second image's loop takes the carried table through its 128 rows. -/
theorem trip2_eq (𝒱 : Variants) (c : Dev nD) (bd : Option 𝒱.V) (i : grid1.Coords) (arg2 : Memref sig .tc .smem S4 .f32) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x40x64 .f32) (harg5 : arg5.IsWhole) (arg6 : Memref sig .tc .vmem S1x40x64 .f32) (harg6 : arg6.IsWhole)
    (v18 v19 : Elt F .f32) (X : BufTy.Contents (Elt F) arg4.view.ty) (k : Fin k1_t2_loop.trips) (acc : FVec F S40x64 .f32) :
    tripR_k1_t2 𝒱 c bd i arg2 harg2 arg3 harg3 arg4 harg4 arg5 harg5 arg6 harg6 v18 v19 (Scalar.ofBits .bf16 0x3F80#16) (Scalar.ofBits .bf16 0x0000#16) X k acc
      = rows k1_pay258 k1_pay259 (Scalar.ofBits .bf16 0x3F80#16) (Scalar.ofBits .bf16 0x0000#16)
          (k1_pay4 v18 v19 (arg4.view.readAt (Elt F) (Rect.unit (s := S1x512x2048) (k1_off2 k) S1x128x2048.size (k1_off2_inb k)).toLoadRect X))
          (k1_pay5 v18 v19 (arg4.view.readAt (Elt F) (Rect.unit (s := S1x512x2048) (k1_off2 k) S1x128x2048.size (k1_off2_inb k)).toLoadRect X))
          acc 128 (Nat.le_refl _) := by
  sl_kernel_rfl

end Cert.KernelIdeal.Hist
-- ==== Proof.Rows.lean ====
/- The value of the histogram call's row loops over the extended reals: what one row, and what 128
   rows, add to an entry of the table. -/
module

public import proofs.«01_k».proof.Proof.Trip

@[expose] public section

set_option maxRecDepth 16384

noncomputable section

namespace Cert.KernelIdeal.Hist

open Cert.KernelIdeal Cert.KernelIdeal.Gen
open Idealize.ShloMosaic Idealize.ShloMosaic.TcCoe Idealize.SL.Sem

/-- A natural number below 2³¹, as a 32-bit word, converts to itself. -/
theorem sitofp_nat (n : ℕ) (h : n < 2147483648) : (FloatOps.sitofp (F := Ideal) .bf16 (BitVec.ofNat 32 n) : EReal) = ((n : ℝ) : EReal) := by
  show ((((BitVec.ofNat 32 n).toInt : ℝ)) : EReal) = _
  have : (BitVec.ofNat 32 n).toInt = (n : ℤ) := by
    have e : (BitVec.ofNat 32 n).toNat = n := by rw [BitVec.toNat_ofNat]; exact Nat.mod_eq_of_lt (by omega)
    rw [BitVec.toInt_eq_toNat_of_lt (by rw [e]; omega), e]
  rw [this]; simp

/-- What one pixel adds to entry (`q`, `c`) of the table: `w` is the pixel's place inside its group of
    32 bins and `g` its group. -/
def weight (w g : EReal) (q c : ℕ) : EReal :=
  max (1 - FloatOps.absf (F := Ideal) (φ := .bf16) (w - ((q : ℝ) : EReal))) 0 * (if g = ((c : ℝ) : EReal) then 1 else 0)

/-- One row adds its pixels' weights. -/
theorem rowStep_apply (within group : FVec Ideal S128x2048 .bf16) (n : Fin 128) (acc : FVec Ideal S40x64 .f32) (q : Fin 40) (c : Fin 64) :
    rowStep k1_pay258 k1_pay259 (Scalar.ofBits .bf16 0x3F80#16) (Scalar.ofBits .bf16 0x0000#16) within group n acc (ix2 q c)
      = acc (ix2 q c) + ∑ l : Fin 2048, weight (within (ix2 n l)) (group (ix2 n l)) q.val c.val := by
  pointwise [rowStep, k1_pay258, k1_pay259]
  unfold weight
  refine congrArg _ (Finset.sum_congr rfl fun l _ => ?_)
  rw [sitofp_nat _ (by have := q.isLt; show q.val < _; omega), sitofp_nat _ (by have := c.isLt; show c.val < _; omega)]

/-- The rows so far add the sum of their pixels' weights. -/
theorem rows_apply (within group : FVec Ideal S128x2048 .bf16) (acc : FVec Ideal S40x64 .f32) (q : Fin 40) (c : Fin 64) (n : ℕ) (h : n ≤ 128) :
    rows k1_pay258 k1_pay259 (Scalar.ofBits .bf16 0x3F80#16) (Scalar.ofBits .bf16 0x0000#16) within group acc n h (ix2 q c)
      = acc (ix2 q c) + ∑ j : Fin n, ∑ l : Fin 2048, weight (within (ix2 ⟨j.val, Nat.lt_of_lt_of_le j.isLt h⟩ l)) (group (ix2 ⟨j.val, Nat.lt_of_lt_of_le j.isLt h⟩ l)) q.val c.val := by
  induction n with
  | zero => simp [rows]
  | succ n ih =>
    rw [rows, rowStep_apply, ih (Nat.le_of_succ_le h), Fin.sum_univ_castSucc (n := n), add_assoc]
    rfl

/-- A pixel's position: its value less the image's minimum, times the scale. -/
def pos (x lo scale : EReal) : EReal := (x - lo) * scale

/-- What a pixel at position `t` adds to entry (`q`, `c`): its group is `⌊t / 32⌋`. -/
def cell (t : EReal) (q c : ℕ) : EReal :=
  weight (t - Ideal.ofBits .f32 0x42000000#32 * FloatOps.floor (F := Ideal) (φ := .f32) (t * Ideal.ofBits .f32 0x3D000000#32))
    (FloatOps.floor (F := Ideal) (φ := .f32) (t * Ideal.ofBits .f32 0x3D000000#32)) q c

/-- A trip's 128 rows add their pixels' cells. -/
theorem trip_apply (lo scale : EReal) (v : Vec Ideal S1x128x2048 .f32) (acc : FVec Ideal S40x64 .f32) (q : Fin 40) (c : Fin 64) :
    rows k1_pay258 k1_pay259 (Scalar.ofBits .bf16 0x3F80#16) (Scalar.ofBits .bf16 0x0000#16) (k1_pay4 lo scale v) (k1_pay5 lo scale v) acc 128 (Nat.le_refl _) (ix2 q c)
      = acc (ix2 q c) + ∑ j : Fin 128, ∑ l : Fin 2048, cell (pos (v (ix3 0 j l)) lo scale) q.val c.val := by
  rw [rows_apply]
  refine congrArg _ (Finset.sum_congr rfl fun j _ => Finset.sum_congr rfl fun l _ => ?_)
  unfold cell pos
  congr 1
  · pointwise [k1_pay4, k1_pay3, k1_pay2]
  · pointwise [k1_pay5, k1_pay3, k1_pay2]

end Cert.KernelIdeal.Hist
-- ==== Proof.Hist.lean ====
/- What the histogram call leaves in its two tables. -/
module

public import proofs.«01_k».proof.Proof.Rows
public import proofs.«01_k».proof.Proof.Gen.KernelIdeal.Frame

@[expose] public section

set_option maxRecDepth 16384

noncomputable section

namespace Cert.KernelIdeal.Hist

open Cert.KernelIdeal Cert.KernelIdeal.Gen
open Idealize.ShloMosaic Idealize.ShloMosaic.TcCoe Idealize.SL.Sem
open Idealize.ShloMosaic.Pipeline (Dat)

/-- What a block of 512 rows of pixels adds to entry (`q`, `c`), in the first `n` trips. -/
def tripSum (x : Vec Ideal S1x512x2048 .f32) (lo scale : EReal) (q c n : ℕ) (h : n ≤ 4) : EReal :=
  ∑ k : Fin n, ∑ j : Fin 128, ∑ l : Fin 2048, cell (pos (x (ix3 0 ⟨128 * k.val + j.val, by omega⟩ l)) lo scale) q c

theorem trips1 : k1_t1_loop.trips = 4 := by decide
theorem trips2 : k1_t2_loop.trips = 4 := by decide

/-- The rows that trip `k` loads of the first image's block. -/
theorem load1 (arg3 : Memref sig .tc .vmem S1x512x2048 .f32) (harg3 : arg3.IsWhole) (x : Vec Ideal S1x512x2048 .f32) (k : Fin k1_t1_loop.trips) (j : Fin 128) (l : Fin 2048) :
    arg3.view.readAt (Elt Ideal) (Rect.unit (s := S1x512x2048) (k1_off1 k) S1x128x2048.size (k1_off1_inb k)).toLoadRect (harg3.unread x) (ix3 0 j l)
      = x (ix3 0 ⟨128 * k.val + j.val, by have := k.isLt; have := trips1; omega⟩ l) := by
  rw [View.readAt_apply, harg3.read_unread]
  congr 1
  funext a
  refine Fin.ext ?_
  show (k1_off1 k) a + 1 * (ix3 (0 : Fin 1) j l a).val = _
  rw [k1_off1_eq]
  fin_cases a <;> simp <;> rfl

/-- The table carried by the first image's loop, before trip `n`. -/
theorem st1_apply (𝒱 : Variants) (c : Dev nD) (bd : Option 𝒱.V) (i : grid1.Coords) (arg2 : Memref sig .tc .smem S4 .f32) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x40x64 .f32) (harg5 : arg5.IsWhole) (arg6 : Memref sig .tc .vmem S1x40x64 .f32) (harg6 : arg6.IsWhole)
    (lo scale : EReal) (x : Vec Ideal S1x512x2048 .f32) (init : FVec Ideal S40x64 .f32) (q : Fin 40) (g : Fin 64) (n : ℕ) (h : n ≤ 4) :
    st_k1_t1 (F := Ideal) 𝒱 c bd i arg2 harg2 arg3 harg3 arg4 harg4 arg5 harg5 arg6 harg6 lo scale (Scalar.ofBits .bf16 0x3F80#16) (Scalar.ofBits .bf16 0x0000#16) (harg3.unread x) init n (ix2 q g)
      = init (ix2 q g) + tripSum x lo scale q.val g.val n h := by
  induction n with
  | zero => rw [st_k1_t1_zero]; simp [tripSum]
  | succ n ih =>
    have e := st_k1_t1_succ (F := Ideal) 𝒱 c bd i arg2 harg2 arg3 harg3 arg4 harg4 arg5 harg5 arg6 harg6 lo scale (Scalar.ofBits .bf16 0x3F80#16) (Scalar.ofBits .bf16 0x0000#16) (harg3.unread x) init ⟨n, by rw [trips1]; omega⟩
    refine (congrFun e _).trans ?_
    refine (congrFun (trip1_eq _ _ _ _ _ _ _ _ _ _ _ _ _ _ _ _ _ _ _) _).trans ?_
    refine (trip_apply _ _ _ _ _ _).trans ?_
    refine (congrArg (· + _) (ih (Nat.le_of_succ_le h))).trans ?_
    unfold tripSum
    rw [Fin.sum_univ_castSucc (n := n)]
    refine (add_assoc _ _ _).trans (congrArg _ (congrArg _ ?_))
    exact Finset.sum_congr rfl fun j _ => Finset.sum_congr rfl fun l _ => congrArg (fun z => cell (pos z lo scale) q.val g.val) (load1 _ _ _ _ _ _)

/-- The rows that trip `k` loads of the second image's block. -/
theorem load2 (arg4 : Memref sig .tc .vmem S1x512x2048 .f32) (harg4 : arg4.IsWhole) (x : Vec Ideal S1x512x2048 .f32) (k : Fin k1_t2_loop.trips) (j : Fin 128) (l : Fin 2048) :
    arg4.view.readAt (Elt Ideal) (Rect.unit (s := S1x512x2048) (k1_off2 k) S1x128x2048.size (k1_off2_inb k)).toLoadRect (harg4.unread x) (ix3 0 j l)
      = x (ix3 0 ⟨128 * k.val + j.val, by have := k.isLt; have := trips2; omega⟩ l) := by
  rw [View.readAt_apply, harg4.read_unread]
  congr 1
  funext a
  refine Fin.ext ?_
  show (k1_off2 k) a + 1 * (ix3 (0 : Fin 1) j l a).val = _
  rw [k1_off2_eq]
  fin_cases a <;> simp <;> rfl

/-- The table carried by the second image's loop, before trip `n`. -/
theorem st2_apply (𝒱 : Variants) (c : Dev nD) (bd : Option 𝒱.V) (i : grid1.Coords) (arg2 : Memref sig .tc .smem S4 .f32) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x40x64 .f32) (harg5 : arg5.IsWhole) (arg6 : Memref sig .tc .vmem S1x40x64 .f32) (harg6 : arg6.IsWhole)
    (lo scale : EReal) (x : Vec Ideal S1x512x2048 .f32) (init : FVec Ideal S40x64 .f32) (q : Fin 40) (g : Fin 64) (n : ℕ) (h : n ≤ 4) :
    st_k1_t2 (F := Ideal) 𝒱 c bd i arg2 harg2 arg3 harg3 arg4 harg4 arg5 harg5 arg6 harg6 lo scale (Scalar.ofBits .bf16 0x3F80#16) (Scalar.ofBits .bf16 0x0000#16) (harg4.unread x) init n (ix2 q g)
      = init (ix2 q g) + tripSum x lo scale q.val g.val n h := by
  induction n with
  | zero => rw [st_k1_t2_zero]; simp [tripSum]
  | succ n ih =>
    have e := st_k1_t2_succ (F := Ideal) 𝒱 c bd i arg2 harg2 arg3 harg3 arg4 harg4 arg5 harg5 arg6 harg6 lo scale (Scalar.ofBits .bf16 0x3F80#16) (Scalar.ofBits .bf16 0x0000#16) (harg4.unread x) init ⟨n, by rw [trips2]; omega⟩
    refine (congrFun e _).trans ?_
    refine (congrFun (trip2_eq _ _ _ _ _ _ _ _ _ _ _ _ _ _ _ _ _ _ _) _).trans ?_
    refine (trip_apply _ _ _ _ _ _).trans ?_
    refine (congrArg (· + _) (ih (Nat.le_of_succ_le h))).trans ?_
    unfold tripSum
    rw [Fin.sum_univ_castSucc (n := n)]
    refine (add_assoc _ _ _).trans (congrArg _ (congrArg _ ?_))
    exact Finset.sum_congr rfl fun j _ => Finset.sum_congr rfl fun l _ => congrArg (fun z => cell (pos z lo scale) q.val g.val) (load2 _ _ _ _ _ _)

/-- What a block of 512 rows of pixels adds to entry (`q`, `c`). -/
def blockSum (x : Vec Ideal S1x512x2048 .f32) (lo scale : EReal) (q c : ℕ) : EReal :=
  ∑ r : Fin 512, ∑ l : Fin 2048, cell (pos (x (ix3 0 r l)) lo scale) q c

/-- Four trips of 128 rows cover the block's 512 rows. -/
theorem tripSum_four (x : Vec Ideal S1x512x2048 .f32) (lo scale : EReal) (q c : ℕ) (h : 4 ≤ 4) :
    tripSum x lo scale q c 4 h = blockSum x lo scale q c := by
  unfold tripSum blockSum
  refine Fin.sum_mul_add_congr fun s k hl => ?_
  have e : (⟨128 * s.val + k.val, by omega⟩ : Fin 512) = ⟨s.val * 128 + k.val, hl⟩ := Fin.ext (by dsimp only; omega)
  rw [e]

variable (V : (c : Dev nD) → (b : Ref sig .tc) → Buf (Elt Ideal) ((c : Thread nD τ).loc b))

/-- The parameter block's entry, as the kernel's scalar load reads it. -/
theorem ld_param (x : Vec Ideal S4 .f32) (n : Fin 4) (hin hh) :
    View.ld x (Rect.unit (s := S4) ![n.val] S1.size hin) (Shape.Idx.first hh) = x (ix1 n) := by
  show x _ = x _
  congr 1
  funext a
  fin_cases a
  refine Fin.ext ?_
  show n.val + 1 * 0 = n.val
  omega

/-- Adding a loop's table to the stored one, at an entry. -/
theorem pay262_apply (a : FVec Ideal S40x64 .f32) (o : Vec Ideal S1x40x64 .f32) (q : Fin 40) (g : Fin 64) (z : Fin 1) :
    k1_pay262 a o (ix3 z q g) = o (ix3 z q g) + a (ix2 q g) := by
  rw [Subsingleton.elim z 0]
  pointwise [k1_pay262]

theorem pay1_apply (a : FVec Ideal S40x64 .f32) (o : Vec Ideal S1x40x64 .f32) (q : Fin 40) (g : Fin 64) (z : Fin 1) :
    k1_pay1 (k1_pay265 a o) (ix3 z q g) = o (ix3 z q g) + a (ix2 q g) := by
  rw [Subsingleton.elim z 0]
  pointwise [k1_pay1, k1_pay265]

theorem pay256_apply (y : S1x40x64.Idx) : k1_pay256 (F := Ideal) y = 0 := by pointwise [k1_pay256]
theorem pay257_apply (y : S1x40x64.Idx) : k1_pay257 (F := Ideal) y = 0 := by pointwise [k1_pay257]
theorem pay260_apply (y : S40x64.Idx) : k1_pay260 (F := Ideal) y = 0 := by pointwise [k1_pay260]
theorem pay263_apply (y : S40x64.Idx) : k1_pay263 (F := Ideal) y = 0 := by pointwise [k1_pay263]

/-- The first table after the first point of an image. -/
theorem at1_A (c : Dev nD) (t : Fin cfg1.N) (h : t.val % 4 = 0) (q : Fin 40) (g : Fin 64) (z : Fin 1) :
    (outsAt1 V c t.val t.isLt).1 (ix3 z q g) = 0 + blockSum (iblk1 V c 1 t) (iblk1 V c 0 t (ix1 0)) (iblk1 V c 0 t (ix1 1)) q.val g.val := by
  rw [outsAt1_A V c t h]
  frame_out
  refine (pay262_apply _ _ _ _ _).trans ?_
  rw [pay256_apply]
  refine congrArg (0 + ·) ?_
  refine (st1_apply _ _ _ _ _ _ _ _ _ _ _ _ _ _ _ _ (iblk1 V c 1 t) _ q g 4 (Nat.le_refl _)).trans ?_
  rw [pay260_apply, zero_add, tripSum_four]
  exact congrArg₂ (fun a b => blockSum (iblk1 V c 1 t) a b q.val g.val) (ld_param (iblk1 V c 0 t) 0 _ _) (ld_param (iblk1 V c 0 t) 1 _ _)

/-- The first table after a later point of an image. -/
theorem at1_B (c : Dev nD) (t : Fin cfg1.N) (h : ¬t.val % 4 = 0) (q : Fin 40) (g : Fin 64) (z : Fin 1) :
    (outsAt1 V c t.val t.isLt).1 (ix3 z q g) = (outsAt1 V c (t.val - 1) (Nat.lt_of_le_of_lt (Nat.sub_le _ _) t.isLt)).1 (ix3 z q g) + blockSum (iblk1 V c 1 t) (iblk1 V c 0 t (ix1 0)) (iblk1 V c 0 t (ix1 1)) q.val g.val := by
  rw [outsAt1_B V c t h]
  frame_out
  refine (pay262_apply _ _ _ _ _).trans ?_
  refine congrArg (_ + ·) ?_
  refine (st1_apply _ _ _ _ _ _ _ _ _ _ _ _ _ _ _ _ (iblk1 V c 1 t) _ q g 4 (Nat.le_refl _)).trans ?_
  rw [pay260_apply, zero_add, tripSum_four]
  exact congrArg₂ (fun a b => blockSum (iblk1 V c 1 t) a b q.val g.val) (ld_param (iblk1 V c 0 t) 0 _ _) (ld_param (iblk1 V c 0 t) 1 _ _)

/-- The second table after the first point of an image. -/
theorem at2_A (c : Dev nD) (t : Fin cfg1.N) (h : t.val % 4 = 0) (q : Fin 40) (g : Fin 64) (z : Fin 1) :
    (outsAt1 V c t.val t.isLt).2 (ix3 z q g) = 0 + blockSum (iblk1 V c 2 t) (iblk1 V c 0 t (ix1 2)) (iblk1 V c 0 t (ix1 3)) q.val g.val := by
  rw [outsAt1_A V c t h]
  frame_out
  refine (pay1_apply _ _ _ _ _).trans ?_
  rw [pay257_apply]
  refine congrArg (0 + ·) ?_
  refine (st2_apply _ _ _ _ _ _ _ _ _ _ _ _ _ _ _ _ (iblk1 V c 2 t) _ q g 4 (Nat.le_refl _)).trans ?_
  rw [pay263_apply, zero_add, tripSum_four]
  exact congrArg₂ (fun a b => blockSum (iblk1 V c 2 t) a b q.val g.val) (ld_param (iblk1 V c 0 t) 2 _ _) (ld_param (iblk1 V c 0 t) 3 _ _)

/-- The second table after a later point of an image. -/
theorem at2_B (c : Dev nD) (t : Fin cfg1.N) (h : ¬t.val % 4 = 0) (q : Fin 40) (g : Fin 64) (z : Fin 1) :
    (outsAt1 V c t.val t.isLt).2 (ix3 z q g) = (outsAt1 V c (t.val - 1) (Nat.lt_of_le_of_lt (Nat.sub_le _ _) t.isLt)).2 (ix3 z q g) + blockSum (iblk1 V c 2 t) (iblk1 V c 0 t (ix1 2)) (iblk1 V c 0 t (ix1 3)) q.val g.val := by
  rw [outsAt1_B V c t h]
  frame_out
  refine (pay1_apply _ _ _ _ _).trans ?_
  refine congrArg (_ + ·) ?_
  refine (st2_apply _ _ _ _ _ _ _ _ _ _ _ _ _ _ _ _ (iblk1 V c 2 t) _ q g 4 (Nat.le_refl _)).trans ?_
  rw [pay263_apply, zero_add, tripSum_four]
  exact congrArg₂ (fun a b => blockSum (iblk1 V c 2 t) a b q.val g.val) (ld_param (iblk1 V c 0 t) 2 _ _) (ld_param (iblk1 V c 0 t) 3 _ _)

/-- The window indices of the grid points: the parameter block, the two images' blocks and the two tables'. -/
theorem widx0 : ∀ t : Fin cfg1.N, win1_0.index t = ![0] := (by decide +kernel : ∀ t : Fin grid1.N, _)
theorem widx1 : ∀ t : Fin cfg1.N, win1_1.index t = ![t.val / 4, t.val % 4, 0] := (by decide +kernel : ∀ t : Fin grid1.N, _)
theorem widx2 : ∀ t : Fin cfg1.N, win1_2.index t = ![t.val / 4, t.val % 4, 0] := (by decide +kernel : ∀ t : Fin grid1.N, _)
theorem widx3 : ∀ t : Fin cfg1.N, win1_3.index t = ![t.val / 4, 0, 0] := (by decide +kernel : ∀ t : Fin grid1.N, _)
theorem widx4 : ∀ t : Fin cfg1.N, win1_4.index t = ![t.val / 4, 0, 0] := (by decide +kernel : ∀ t : Fin grid1.N, _)

/-- The whole-image table of one image of an image stack. -/
def table (x : Vec Ideal S8x2048x2048 .f32) (lo scale : EReal) (b : Fin 8) (q c : ℕ) : EReal :=
  ∑ h : Fin 2048, ∑ l : Fin 2048, cell (pos (x (ix3 b h l)) lo scale) q c

/-- Block `s` of image `b` contributes the pixels of rows 512·s … 512·s+511. -/
theorem block1 (c : Dev nD) (t : Fin cfg1.N) (q g : ℕ) (b : Fin 8) (hb : b.val = t.val / 4) (s : ℕ) (hs : s = t.val % 4) :
    blockSum (iblk1 V c 1 t) (iblk1 V c 0 t (ix1 0)) (iblk1 V c 0 t (ix1 1)) q g =
      ∑ r : Fin 512, ∑ l : Fin 2048, cell (pos (V c main_v29 (ix3 b ⟨s * 512 + r.val, by omega⟩ l)) (V c main_v28 (ix1 0)) (V c main_v28 (ix1 1))) q g := by
  unfold blockSum
  have h0 : iblk1 V c 0 t (ix1 0) = V c main_v28 (ix1 0) := by
    blk_point [iblk1, widx0 t]
  have h1 : iblk1 V c 0 t (ix1 1) = V c main_v28 (ix1 1) := by
    blk_point [iblk1, widx0 t]
  refine Finset.sum_congr rfl fun r _ => Finset.sum_congr rfl fun l _ => ?_
  have h2 : iblk1 V c 1 t (ix3 0 r l) = V c main_v29 (ix3 b ⟨s * 512 + r.val, by omega⟩ l) := by
    blk_point [iblk1, widx1 t]
  rw [h0, h1, h2]

/-- The first table of the launch: entry (`b`, `q`, `g`) sums over all pixels of the first stack's image `b`. -/
theorem arr3 (c : Dev nD) : (dat1 V c).arrAt 3 cfg1.N = fun y : S8x40x64.Idx =>
    table (V c main_v29) (V c main_v28 (ix1 0)) (V c main_v28 (ix1 1)) (y 0) (y 1).val (y 2).val := by
  refine (dat1 V c).arrAt_eq_of_covers 3 _ (by decide +kernel) fun t hf y => ?_
  have h4 : t.val % 4 = 4 - 1 := (flush1_3 t).mp hf
  blk_simp
  rw [after1_3]
  have ht : t.val < 32 := t.isLt
  refine (Pipeline.eq_sum_fin_of_reset_step_apply_of_flush (fun n h (i : S1x40x64.Idx) => (show EReal from (outsAt1 V c n h).1 i)) 4 (fun _ => (0 : EReal))
    (fun p i => blockSum (iblk1 V c 1 p) (iblk1 V c 0 p (ix1 0)) (iblk1 V c 0 p (ix1 1)) (i 1).val (i 2).val)
    (fun p hp i => by
      have e : i = ix3 (i 0) (i 1) (i 2) := by funext a; fin_cases a <;> rfl
      rw [e]; exact at1_A V c p hp _ _ _)
    (fun p hp i => by
      have e : i = ix3 (i 0) (i 1) (i 2) := by funext a; fin_cases a <;> rfl
      rw [e]; exact at1_B V c p hp _ _ _)
    t h4 y).trans ?_
  rw [zero_add]
  have hb : ((win1_3.blk t).view.emb y 0 : Fin 8).val = t.val / 4 := by
    have := (y 0).isLt
    blk_simp [widx3 t]
  have e1 : win1_3.index t 1 * 40 + (y 1).val = (y 1).val := by simp [widx3 t]
  have e2 : win1_3.index t 2 * 64 + (y 2).val = (y 2).val := by simp [widx3 t]
  rw [e1, e2]
  unfold table
  refine (Fin.sum_fin_congr fun s => block1 V c _ _ _ _ (hb.trans (by dsimp only; omega)) s.val (by dsimp only; omega)).trans ?_
  exact Fin.sum_mul_add_congr fun s k hl => rfl

/-- Block `s` of image `b` contributes the pixels of rows 512·s … 512·s+511. -/
theorem block2 (c : Dev nD) (t : Fin cfg1.N) (q g : ℕ) (b : Fin 8) (hb : b.val = t.val / 4) (s : ℕ) (hs : s = t.val % 4) :
    blockSum (iblk1 V c 2 t) (iblk1 V c 0 t (ix1 2)) (iblk1 V c 0 t (ix1 3)) q g =
      ∑ r : Fin 512, ∑ l : Fin 2048, cell (pos (V c main_v30 (ix3 b ⟨s * 512 + r.val, by omega⟩ l)) (V c main_v28 (ix1 2)) (V c main_v28 (ix1 3))) q g := by
  unfold blockSum
  have h0 : iblk1 V c 0 t (ix1 2) = V c main_v28 (ix1 2) := by
    blk_point [iblk1, widx0 t]
  have h1 : iblk1 V c 0 t (ix1 3) = V c main_v28 (ix1 3) := by
    blk_point [iblk1, widx0 t]
  refine Finset.sum_congr rfl fun r _ => Finset.sum_congr rfl fun l _ => ?_
  have h2 : iblk1 V c 2 t (ix3 0 r l) = V c main_v30 (ix3 b ⟨s * 512 + r.val, by omega⟩ l) := by
    blk_point [iblk1, widx2 t]
  rw [h0, h1, h2]

/-- The second table of the launch: entry (`b`, `q`, `g`) sums over all pixels of the second stack's image `b`. -/
theorem arr4 (c : Dev nD) : (dat1 V c).arrAt 4 cfg1.N = fun y : S8x40x64.Idx =>
    table (V c main_v30) (V c main_v28 (ix1 2)) (V c main_v28 (ix1 3)) (y 0) (y 1).val (y 2).val := by
  refine (dat1 V c).arrAt_eq_of_covers 4 _ (by decide +kernel) fun t hf y => ?_
  have h4 : t.val % 4 = 4 - 1 := (flush1_4 t).mp hf
  blk_simp
  rw [after1_4]
  have ht : t.val < 32 := t.isLt
  refine (Pipeline.eq_sum_fin_of_reset_step_apply_of_flush (fun n h (i : S1x40x64.Idx) => (show EReal from (outsAt1 V c n h).2 i)) 4 (fun _ => (0 : EReal))
    (fun p i => blockSum (iblk1 V c 2 p) (iblk1 V c 0 p (ix1 2)) (iblk1 V c 0 p (ix1 3)) (i 1).val (i 2).val)
    (fun p hp i => by
      have e : i = ix3 (i 0) (i 1) (i 2) := by funext a; fin_cases a <;> rfl
      rw [e]; exact at2_A V c p hp _ _ _)
    (fun p hp i => by
      have e : i = ix3 (i 0) (i 1) (i 2) := by funext a; fin_cases a <;> rfl
      rw [e]; exact at2_B V c p hp _ _ _)
    t h4 y).trans ?_
  rw [zero_add]
  have hb : ((win1_4.blk t).view.emb y 0 : Fin 8).val = t.val / 4 := by
    have := (y 0).isLt
    blk_simp [widx4 t]
  have e1 : win1_4.index t 1 * 40 + (y 1).val = (y 1).val := by simp [widx4 t]
  have e2 : win1_4.index t 2 * 64 + (y 2).val = (y 2).val := by simp [widx4 t]
  rw [e1, e2]
  unfold table
  refine (Fin.sum_fin_congr fun s => block2 V c _ _ _ _ (hb.trans (by dsimp only; omega)) s.val (by dsimp only; omega)).trans ?_
  exact Fin.sum_mul_add_congr fun s k hl => rfl

end Cert.KernelIdeal.Hist
-- ==== Proof.Final.lean ====
/- The last call: the two tables become histograms, and the histograms the divergence term. -/
module

public import proofs.«01_k».proof.Proof.Shared
public import proofs.«01_k».proof.Proof.Gen.KernelIdeal.Frame

@[expose] public section

set_option maxRecDepth 16384

noncomputable section

namespace Cert.KernelIdeal.Final

open Cert.KernelIdeal Cert.KernelIdeal.Gen
open Cert.Shared Idealize.ShloMosaic Idealize.ShloMosaic.TcCoe Idealize.SL.Sem
open Idealize.ShloMosaic.Pipeline (Dat)

/-- Bin `32·c + q` of a table: entry (`q`, `c`), plus for `q = 0` the overflow entry of the column before; the two edge bins are dropped. -/
def bin (T : ℕ → ℕ → EReal) (q c : ℕ) : EReal :=
  if q = 0 ∧ c = 0 ∨ q = 31 ∧ c = 63 then 0
  else if q = 0 then T 0 c + (if c = 0 then 0 else T 32 (c - 1)) else T q c

/-- The two words that compare coordinates with the edge bins. -/
theorem edge (n k : ℕ) (hn : n < 64) (hk : k < 64) : IntOp.cmpi .eq (BitVec.ofNat 32 n) (BitVec.ofNat 32 k) = BitVec.ofBool (decide (n = k)) := by
  by_cases h : n = k
  · subst h; simp [IntOp.cmpi]
  · have h' : (BitVec.ofNat 32 n == BitVec.ofNat 32 k) = false := by
      rw [beq_eq_false_iff_ne]
      intro e
      have := congrArg BitVec.toNat e
      rw [BitVec.toNat_ofNat, BitVec.toNat_ofNat, Nat.mod_eq_of_lt (by omega), Nat.mod_eq_of_lt (by omega)] at this
      exact h this
    simp [IntOp.cmpi, h, h']

theorem edge_sel (q c : ℕ) (hq : q < 32) (hc : c < 64) (a b : EReal) :
    Scalar.select (IntOp.ori (IntOp.andi (IntOp.cmpi .eq (BitVec.ofNat 32 q) 0#32) (IntOp.cmpi .eq (BitVec.ofNat 32 c) 0#32))
      (IntOp.andi (IntOp.cmpi .eq (BitVec.ofNat 32 q) 31#32) (IntOp.cmpi .eq (BitVec.ofNat 32 c) 63#32))) a b
      = if q = 0 ∧ c = 0 ∨ q = 31 ∧ c = 63 then a else b := by
  rw [edge q 0 (by omega) (by omega), edge c 0 (by omega) (by omega), edge q 31 (by omega) (by omega), edge c 63 (by omega) (by omega)]
  by_cases h0 : q = 0 <;> by_cases h1 : c = 0 <;> by_cases h2 : q = 31 <;> by_cases h3 : c = 63 <;>
    simp [Scalar.select, IntOp.ori, IntOp.andi, h0, h1, h2, h3]

theorem bin_of (T : ℕ → ℕ → EReal) (q : Fin 32) (c : Fin 64) (u : Fin 40 → Fin 64 → EReal) (hu : ∀ q c, u q c = T q.val c.val) :
    (if q.val = 0 ∧ c.val = 0 ∨ q.val = 31 ∧ c.val = 63 then 0 else
      if h : q.val < 1 then u ⟨q.val, by omega⟩ c + (if h' : c.val < 1 then 0 else u ⟨32 + q.val, by omega⟩ ⟨c.val - 1, by omega⟩) else u ⟨1 + (q.val - 1), by omega⟩ c) = bin T q.val c.val := by
  unfold bin
  refine congrArg (ite _ 0) ?_
  by_cases h : q.val = 0
  · by_cases h' : c.val = 0 <;> simp [hu, h, h']
  · have e : 1 + (q.val - 1) = q.val := by omega
    simp [hu, h, e]

/-- The first table, fixed up. -/
theorem pay2_apply (T : Vec Ideal S8x40x64 .f32) (Tn : Fin 8 → ℕ → ℕ → EReal) (hT : ∀ b q c, T (ix3 b q c) = Tn b q.val c.val)
    (b : Fin 8) (q : Fin 32) (c : Fin 64) : k2_pay2 T (ix3 b q c) = bin (Tn b) q.val c.val := by
  pointwise [k2_pay2]
  refine (edge_sel _ _ q.isLt c.isLt _ _).trans ?_
  exact bin_of (Tn b) q c (fun q c => T (ix3 b q c)) (hT b)

/-- The second table, fixed up; its edge bins are dropped where it is used. -/
theorem pay3_apply (T : Vec Ideal S8x40x64 .f32) (Tn : Fin 8 → ℕ → ℕ → EReal) (hT : ∀ b q c, T (ix3 b q c) = Tn b q.val c.val)
    (b : Fin 8) (q : Fin 32) (c : Fin 64) :
    select (ori k2_pay4 (andi (cmpi .eq (iota .tc S8x32x64 32 [1] iota_S8x32x64_d1_w32) (broadcast S8x32x64 31#32))
      (cmpi .eq (iota .tc S8x32x64 32 [2] iota_S8x32x64_d2_w32) (broadcast S8x32x64 63#32)))) (broadcast S8x32x64 (0 : EReal)) (k2_pay3 T) (ix3 b q c)
      = bin (Tn b) q.val c.val := by
  pointwise [k2_pay3, k2_pay4]
  refine (edge_sel _ _ q.isLt c.isLt _ _).trans ?_
  exact bin_of (Tn b) q c (fun q c => T (ix3 b q c)) (hT b)

theorem sum4 (X : FVec Ideal S8x32x64 .f32) (j : S1.Idx) :
    Ideal.reduceAdd reduces_S1x8x32x64_S1 (shapeCast S1x8x32x64 X shapeCasts_S8x32x64_S1x8x32x64) j
      = ∑ b : Fin 8, ∑ q : Fin 32, ∑ c : Fin 64, X (ix3 b q c) := by
  rw [Ideal.reduceAdd_total _ (by decide)]
  refine (sum_idx4 _).trans ?_
  rw [Fin.sum_univ_one]
  refine Finset.sum_congr rfl fun b _ => Finset.sum_congr rfl fun q _ => Finset.sum_congr rfl fun c _ => ?_
  pointwise []

/-- Rows `q` and columns `c` of a table are the bins `32·c + q`. -/
theorem sum_bins (F : ℕ → ℕ → EReal) : ∑ q : Fin 32, ∑ c : Fin 64, F q.val c.val = ∑ k : Fin 2048, F (k.val % 32) (k.val / 32) := by
  rw [Finset.sum_comm]
  refine Fin.sum_mul_add_congr fun c q hl => ?_
  dsimp only
  rw [show (c.val * 32 + q.val) % 32 = q.val by omega, show (c.val * 32 + q.val) / 32 = c.val by omega]

/-- The last call's arithmetic over abstract histograms. -/
theorem pay1_apply (p t w : Vec Ideal S8x32x64 .f32) (l : EReal) (n : Fin 128) (m : IVec S8x32x64 1) (a a' : IVec S8x32x64 32)
    (Pn Gn Wn : Fin 8 → ℕ → ℕ → EReal) (hp : ∀ b q c, p (ix3 b q c) = Pn b q.val c.val)
    (hg : ∀ b q c, select (ori m (andi (cmpi .eq a (broadcast S8x32x64 31#32)) (cmpi .eq a' (broadcast S8x32x64 63#32)))) (broadcast S8x32x64 (0 : EReal)) t (ix3 b q c) = Gn b q.val c.val)
    (hw : ∀ b q c, w (ix3 b q c) = Wn b q.val c.val) :
    k2_pay1 (F := Ideal) p t a a' m w l (ix2 0 n) =
      finish (fun b k => Pn b (k.val % 32) (k.val / 32)) (fun b k => Gn b (k.val % 32) (k.val / 32)) (fun b k => Wn b (k.val % 32) (k.val / 32)) l := by
  pointwise [k2_pay1]
  generalize hG : select (ori m (andi (cmpi .eq a (broadcast S8x32x64 31#32)) (cmpi .eq a' (broadcast S8x32x64 63#32)))) (broadcast S8x32x64 (0 : EReal)) t = g at hg ⊢
  unfold finish
  simp only [sum4, hp, hg]
  have eP : ∑ b : Fin 8, ∑ q : Fin 32, ∑ c : Fin 64, Pn b q.val c.val = total (fun b k => Pn b (k.val % 32) (k.val / 32)) :=
    Finset.sum_congr rfl fun b _ => sum_bins (Pn b)
  have eG : ∑ b : Fin 8, ∑ q : Fin 32, ∑ c : Fin 64, Gn b q.val c.val = total (fun b k => Gn b (k.val % 32) (k.val / 32)) :=
    Finset.sum_congr rfl fun b _ => sum_bins (Gn b)
  rw [eP, eG]
  refine congrArg (_ + ·) (congrArg (Ideal.div · _) ?_)
  refine Finset.sum_congr rfl fun b _ => ?_
  refine Eq.trans ?_ (sum_bins fun q c => weighted (FloatOps.exp (F := Ideal) (φ := .f32) (Ideal.div (Gn b q c) (total _)) * (Ideal.div (Gn b q c) (total _) - Ideal.div (Pn b q c) (total _))) (Wn b q c))
  refine Finset.sum_congr rfl fun q _ => Finset.sum_congr rfl fun c _ => ?_
  pointwise [weighted]
  rw [hp, hg, hw]

variable (V : (c : Dev nD) → (b : Ref sig .tc) → Buf (Elt Ideal) ((c : Thread nD τ).loc b))

theorem widx0 : ∀ t : Fin cfg2.N, win2_0.index t = ![0] := (by decide +kernel : ∀ t : Fin grid2.N, _)
theorem widx1 : ∀ t : Fin cfg2.N, win2_1.index t = ![0, 0, 0] := (by decide +kernel : ∀ t : Fin grid2.N, _)
theorem widx2 : ∀ t : Fin cfg2.N, win2_2.index t = ![0, 0, 0] := (by decide +kernel : ∀ t : Fin grid2.N, _)
theorem widx3 : ∀ t : Fin cfg2.N, win2_3.index t = ![0, 0, 0] := (by decide +kernel : ∀ t : Fin grid2.N, _)

/-- The scalar block's entry, as the kernel's scalar load reads it. -/
theorem ld_param (x : Vec Ideal S1 .f32) (hin hh) : View.ld x (Rect.unit (s := S1) ![0] S1.size hin) (Shape.Idx.first hh) = x (ix1 0) := by
  show x _ = x _
  congr 1
  funext a
  fin_cases a
  exact Subsingleton.elim (α := Fin 1) _ _

/-- The last call's array: the loss in every lane, from the two tables `Tx` and `Tt`, the bin weights and the pixel term. -/
theorem arr4 (c : Dev nD) (Tx Tt Wn : Fin 8 → ℕ → ℕ → EReal)
    (hx : ∀ (b : Fin 8) (q : Fin 40) (g : Fin 64), V c main_v31_0 (ix3 b q g) = Tx b q.val g.val)
    (ht : ∀ (b : Fin 8) (q : Fin 40) (g : Fin 64), V c main_v31_1 (ix3 b q g) = Tt b q.val g.val)
    (hw : ∀ (b : Fin 8) (q : Fin 32) (g : Fin 64), V c main_v34 (ix3 b q g) = Wn b q.val g.val) :
    (dat2 V c).arrAt 4 cfg2.N = fun _ : S1x128.Idx => finish (fun b k => bin (Tx b) (k.val % 32) (k.val / 32))
      (fun b k => bin (Tt b) (k.val % 32) (k.val / 32)) (fun b k => Wn b (k.val % 32) (k.val / 32)) (V c main_v35 (ix1 0)) := by
  refine (dat2 V c).arrAt_eq_of_covers 4 _ (by decide +kernel) fun t hf y => ?_
  blk_simp
  rw [after2_4]
  unfold outsAt2
  frame_out
  have e : y = ix2 0 (y 1) := by funext a; fin_cases a; exact Subsingleton.elim (α := Fin 1) _ _; rfl
  have e1 : ∀ b q g, iblk2 V c 1 t (ix3 b q g) = Tx b q.val g.val := fun b q g => by
    rw [← hx]; blk_point [iblk2, widx1 t]
  have e2 : ∀ b q g, iblk2 V c 2 t (ix3 b q g) = Tt b q.val g.val := fun b q g => by
    rw [← ht]; blk_point [iblk2, widx2 t]
  have e3 : ∀ b q g, iblk2 V c 3 t (ix3 b q g) = Wn b q.val g.val := fun b q g => by
    rw [← hw]; blk_point [iblk2, widx3 t]
  have e0 : iblk2 V c 0 t (ix1 0) = V c main_v35 (ix1 0) := by
    blk_point [iblk2, widx0 t]
  refine (congrArg (k2_pay1 (F := Ideal) _ _ _ _ _ _ _) e).trans ?_
  refine (pay1_apply _ _ _ _ _ _ _ _ (fun b => bin (Tx b)) (fun b => bin (Tt b)) Wn (pay2_apply _ Tx e1) (pay3_apply _ Tt e2) e3).trans ?_
  exact congrArg (finish _ _ _) ((ld_param (iblk2 V c 0 t) _ _).trans e0)

end Cert.KernelIdeal.Final
-- ==== Proof.HostK.lean ====
/- The host operations between the calls: what each call reads, from the arguments. -/
module

public import Idealize.ShloMosaic.Lib.StableHlo.RunRead
public import proofs.«01_k».proof.Proof.Stats
public import proofs.«01_k».proof.Proof.Hist
public import proofs.«01_k».proof.Proof.Final
public import proofs.«01_k».proof.Proof.Gen.KernelIdeal.Frame

@[expose] public section

set_option maxRecDepth 16384

noncomputable section

namespace Cert.KernelIdeal.HostK

open Cert.KernelIdeal Cert.KernelIdeal.Gen
open Cert.Shared Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The three image stacks and the bin weights, as the arguments hold them. -/
def img0 (c : Dev nD) (b : Fin 8) (r l : Fin 2048) : EReal := m ((c : Thread nD τ).loc main_arg0) (ix4 b 0 r l)
def img1 (c : Dev nD) (b : Fin 8) (r l : Fin 2048) : EReal := m ((c : Thread nD τ).loc main_arg1) (ix4 b 0 r l)
def img2 (c : Dev nD) (b : Fin 8) (r l : Fin 2048) : EReal := m ((c : Thread nD τ).loc main_arg2) (ix4 b 0 r l)
def wts (c : Dev nD) (b : Fin 8) (k : Fin 2048) : EReal := m ((c : Thread nD τ).loc main_arg3) (ix4 b 0 k 0)

/-! ### Before the first call: the stacks as matrices of 16384 rows -/

theorem w1_v0 (c : Dev nD) (R : Fin 16384) (l : Fin 2048) : W1 m ρ c (Proc.devRef .tc main_v0) (ix2 R l) =
    img0 m c ⟨R.val / 2048, by omega⟩ ⟨R.val % 2048, by omega⟩ l := by
  unfold img0
  unfold_abbrev_sides
  after_results
  pointwise []

theorem w1_v1 (c : Dev nD) (R : Fin 16384) (l : Fin 2048) : W1 m ρ c (Proc.devRef .tc main_v1) (ix2 R l) =
    img1 m c ⟨R.val / 2048, by omega⟩ ⟨R.val % 2048, by omega⟩ l := by
  unfold img1
  unfold_abbrev_sides
  after_results
  pointwise []

theorem w1_v2 (c : Dev nD) (R : Fin 16384) (l : Fin 2048) : W1 m ρ c (Proc.devRef .tc main_v2) (ix2 R l) =
    img2 m c ⟨R.val / 2048, by omega⟩ ⟨R.val % 2048, by omega⟩ l := by
  unfold img2
  unfold_abbrev_sides
  after_results
  pointwise []

/-! ### The block statistics put together -/

/-- The 16384 rows are 8 images of 2048. -/
theorem rows_sum (F : Fin 8 → Fin 2048 → EReal) : ∑ R : Fin 16384, F ⟨R.val / 2048, by omega⟩ ⟨R.val % 2048, by omega⟩ = ∑ b, ∑ h, F b h := by
  refine Eq.symm (Fin.sum_mul_add_congr fun b h hl => ?_)
  exact congrArg₂ F (Fin.ext (by dsimp only; omega)) (Fin.ext (by dsimp only; omega))

theorem rows_inf (F : Fin 8 → Fin 2048 → EReal) : ⨅ R : Fin 16384, F ⟨R.val / 2048, by omega⟩ ⟨R.val % 2048, by omega⟩ = ⨅ b, ⨅ h, F b h := by
  refine Eq.symm (iInf_mul_add (by norm_num) F _ fun b h hl => ?_)
  exact congrArg₂ F (Fin.ext (by dsimp only; omega)) (Fin.ext (by dsimp only; omega))

theorem rows_sup (F : Fin 8 → Fin 2048 → EReal) : ⨆ R : Fin 16384, F ⟨R.val / 2048, by omega⟩ ⟨R.val % 2048, by omega⟩ = ⨆ b, ⨆ h, F b h := by
  refine Eq.symm (iSup_mul_add (by norm_num) F _ fun b h hl => ?_)
  exact congrArg₂ F (Fin.ext (by dsimp only; omega)) (Fin.ext (by dsimp only; omega))

theorem sum_loss' (x y w : Vec Ideal S16384x2048 .f32) (X Y W : Fin 8 → Fin 2048 → Fin 2048 → EReal)
    (hx : ∀ R l, x (ix2 R l) = X ⟨R.val / 2048, by omega⟩ ⟨R.val % 2048, by omega⟩ l)
    (hy : ∀ R l, y (ix2 R l) = Y ⟨R.val / 2048, by omega⟩ ⟨R.val % 2048, by omega⟩ l)
    (hw : ∀ R l, w (ix2 R l) = W ⟨R.val / 2048, by omega⟩ ⟨R.val % 2048, by omega⟩ l) :
    ∑ b, Stats.blkLoss x y w b = pixLoss X Y W := by
  unfold Stats.blkLoss pixLoss
  refine (Fin.sum_mul_add_congr (f := fun R : Fin 16384 => ∑ l : Fin 2048, weighted (x (ix2 R l) - y (ix2 R l)) (w (ix2 R l))) fun b r hl => rfl).trans ?_
  refine Eq.trans ?_ (rows_sum fun b h => ∑ l, weighted (X b h l - Y b h l) (W b h l))
  refine Finset.sum_congr rfl fun R _ => Finset.sum_congr rfl fun l _ => ?_
  rw [hx, hy, hw]

theorem sum_loss (c : Dev nD) : ∑ b, Stats.blkLoss (V1 m ρ c main_v0) (V1 m ρ c main_v1) (V1 m ρ c main_v2) b =
    pixLoss (img0 m c) (img1 m c) (img2 m c) :=
  sum_loss' _ _ _ _ _ _ (w1_v0 m ρ c) (w1_v1 m ρ c) (w1_v2 m ρ c)

theorem inf' (x : Vec Ideal S16384x2048 .f32) (X : Fin 8 → Fin 2048 → Fin 2048 → EReal)
    (hx : ∀ R l, x (ix2 R l) = X ⟨R.val / 2048, by omega⟩ ⟨R.val % 2048, by omega⟩ l) : ⨅ b, Stats.blkMin x b = lo X := by
  unfold Stats.blkMin lo
  refine (iInf_mul_add (by norm_num) _ (fun R : Fin 16384 => ⨅ l : Fin 2048, x (ix2 R l)) fun b r hl => rfl).trans ?_
  refine Eq.trans ?_ (rows_inf fun b h => ⨅ l, X b h l)
  exact iInf_congr fun R => iInf_congr fun l => hx R l

theorem sup' (x : Vec Ideal S16384x2048 .f32) (X : Fin 8 → Fin 2048 → Fin 2048 → EReal)
    (hx : ∀ R l, x (ix2 R l) = X ⟨R.val / 2048, by omega⟩ ⟨R.val % 2048, by omega⟩ l) : ⨆ b, Stats.blkMax x b = hi X := by
  unfold Stats.blkMax hi
  refine (iSup_mul_add (by norm_num) _ (fun R : Fin 16384 => ⨆ l : Fin 2048, x (ix2 R l)) fun b r hl => rfl).trans ?_
  refine Eq.trans ?_ (rows_sup fun b h => ⨆ l, X b h l)
  exact iSup_congr fun R => iSup_congr fun l => hx R l

/-- The first call's array, by lanes. -/
theorem w2_v3 (c : Dev nD) (b : Fin 32) (n : Fin 128) : W2 m ρ c (Proc.devRef .tc main_v3) (ix3 b 0 n) =
    Stats.lane (Stats.blkLoss (V1 m ρ c main_v0) (V1 m ρ c main_v1) (V1 m ρ c main_v2) b) (Stats.blkMin (V1 m ρ c main_v0) b)
      (Stats.blkMax (V1 m ρ c main_v0) b) (Stats.blkMin (V1 m ρ c main_v1) b) (Stats.blkMax (V1 m ρ c main_v1) b) n.val :=
  congrFun ((W2_arr m ρ c 3).trans (Stats.arr3 (V1 m ρ) c)) (ix3 b 0 n)

/-! ### Before the second call -/

/-- The pixel term. -/
def pix (c : Dev nD) : EReal := Ideal.div (pixLoss (img0 m c) (img1 m c) (img2 m c)) (Ideal.ofBits .f32 0x4C000000#32)

theorem w3_v7 (c : Dev nD) : W3 m ρ c (Proc.devRef .tc main_v7) ix0 = pix m c := by
  unfold pix
  unfold_abbrev_sides
  after_results
  pointwise []
  refine congrArg (Ideal.div · _) ((Finset.sum_congr rfl fun b _ => ?_).trans (sum_loss m ρ c))
  exact w2_v3 m ρ c b 0

theorem fold_lo (f g : Fin 32 → EReal) (v : EReal) (h : ∀ b, g b = f b) (hf : ⨅ b, f b = v) :
    Finset.fold min (Ideal.ofBits .f32 0x7F800000#32) g Finset.univ = v :=
  (fold_min g).trans ((iInf_congr h).trans hf)
theorem fold_hi (f g : Fin 32 → EReal) (v : EReal) (h : ∀ b, g b = f b) (hf : ⨆ b, f b = v) :
    Finset.fold max (Ideal.ofBits .f32 0xFF800000#32) g Finset.univ = v :=
  (fold_max g).trans ((iSup_congr h).trans hf)
theorem fold_lo0 (c : Dev nD) : Finset.fold min (Ideal.ofBits .f32 0x7F800000#32) (fun x : Fin 32 => (show EReal from W2 m ρ c (Proc.devRef .tc main_v3) (ix3 x 0 1))) Finset.univ = lo (img0 m c) :=
  fold_lo (Stats.blkMin (V1 m ρ c main_v0)) _ _ (fun b => w2_v3 m ρ c b 1) (inf' _ _ (w1_v0 m ρ c))
theorem fold_hi0 (c : Dev nD) : Finset.fold max (Ideal.ofBits .f32 0xFF800000#32) (fun x : Fin 32 => (show EReal from W2 m ρ c (Proc.devRef .tc main_v3) (ix3 x 0 2))) Finset.univ = hi (img0 m c) :=
  fold_hi (Stats.blkMax (V1 m ρ c main_v0)) _ _ (fun b => w2_v3 m ρ c b 2) (sup' _ _ (w1_v0 m ρ c))
theorem fold_lo1 (c : Dev nD) : Finset.fold min (Ideal.ofBits .f32 0x7F800000#32) (fun x : Fin 32 => (show EReal from W2 m ρ c (Proc.devRef .tc main_v3) (ix3 x 0 3))) Finset.univ = lo (img1 m c) :=
  fold_lo (Stats.blkMin (V1 m ρ c main_v1)) _ _ (fun b => w2_v3 m ρ c b 3) (inf' _ _ (w1_v1 m ρ c))
theorem fold_hi1 (c : Dev nD) : Finset.fold max (Ideal.ofBits .f32 0xFF800000#32) (fun x : Fin 32 => (show EReal from W2 m ρ c (Proc.devRef .tc main_v3) (ix3 x 0 4))) Finset.univ = hi (img1 m c) :=
  fold_hi (Stats.blkMax (V1 m ρ c main_v1)) _ _ (fun b => w2_v3 m ρ c b 4) (sup' _ _ (w1_v1 m ρ c))

/-- The factor from values to bins. -/
def scale (X : Fin 8 → Fin 2048 → Fin 2048 → EReal) : EReal := Ideal.div (Ideal.ofBits .f32 0x45000000#32) (hi X - lo X)

theorem w3_v28_0 (c : Dev nD) : W3 m ρ c (Proc.devRef .tc main_v28) (ix1 0) = lo (img0 m c) := by
  unfold_abbrev_sides
  after_reads_simp
  pointwise []
  refine Eq.trans (b := StableHlo.upto hostOps1 (W2 m ρ c) 29 (Proc.devRef .tc main_v24) (ix1 0)) rfl ?_
  after_reads_simp
  pointwise []
  exact fold_lo0 m ρ c

theorem w3_v28_1 (c : Dev nD) : W3 m ρ c (Proc.devRef .tc main_v28) (ix1 1) = scale (img0 m c) := by
  unfold_abbrev_sides
  after_reads_simp
  pointwise []
  refine Eq.trans (b := StableHlo.upto hostOps1 (W2 m ρ c) 30 (Proc.devRef .tc main_v25) (ix1 0)) rfl ?_
  after_reads_simp
  pointwise []
  exact congrArg₂ (fun a b => Ideal.div (Ideal.ofBits .f32 0x45000000#32) (a - b)) (fold_hi0 m ρ c) (fold_lo0 m ρ c)

theorem w3_v28_2 (c : Dev nD) : W3 m ρ c (Proc.devRef .tc main_v28) (ix1 2) = lo (img1 m c) := by
  unfold_abbrev_sides
  after_reads_simp
  pointwise []
  refine Eq.trans (b := StableHlo.upto hostOps1 (W2 m ρ c) 31 (Proc.devRef .tc main_v26) (ix1 0)) rfl ?_
  after_reads_simp
  pointwise []
  exact fold_lo1 m ρ c

theorem w3_v28_3 (c : Dev nD) : W3 m ρ c (Proc.devRef .tc main_v28) (ix1 3) = scale (img1 m c) := by
  unfold_abbrev_sides
  after_reads_simp
  pointwise []
  refine Eq.trans (b := StableHlo.upto hostOps1 (W2 m ρ c) 32 (Proc.devRef .tc main_v27) (ix1 0)) rfl ?_
  after_reads_simp
  pointwise []
  exact congrArg₂ (fun a b => Ideal.div (Ideal.ofBits .f32 0x45000000#32) (a - b)) (fold_hi1 m ρ c) (fold_lo1 m ρ c)

theorem w3_v29 (c : Dev nD) (b : Fin 8) (h l : Fin 2048) : W3 m ρ c (Proc.devRef .tc main_v29) (ix3 b h l) = img0 m c b h l := by
  refine Eq.trans (b := W2 m ρ c (Proc.devRef .tc main_arg0) (ix4 b 0 h l)) ?_ (congrFun (W2_args m ρ c main_arg0 (by decide)) _)
  unfold_abbrev_sides
  after_results
  pointwise []

theorem w3_v30 (c : Dev nD) (b : Fin 8) (h l : Fin 2048) : W3 m ρ c (Proc.devRef .tc main_v30) (ix3 b h l) = img1 m c b h l := by
  refine Eq.trans (b := W2 m ρ c (Proc.devRef .tc main_arg1) (ix4 b 0 h l)) ?_ (congrFun (W2_args m ρ c main_arg1 (by decide)) _)
  unfold_abbrev_sides
  after_results
  pointwise []

/-! ### The two tables, and what the last call reads -/

/-- Entry (`q`, `c`) of an image's table. -/
def mass (X : Fin 8 → Fin 2048 → Fin 2048 → EReal) (l s : EReal) (b : Fin 8) (q c : ℕ) : EReal :=
  ∑ h : Fin 2048, ∑ w : Fin 2048, Hist.cell (Hist.pos (X b h w) l s) q c

theorem table_eq (x : Vec Ideal S8x2048x2048 .f32) (X : Fin 8 → Fin 2048 → Fin 2048 → EReal) (hx : ∀ b h l, x (ix3 b h l) = X b h l)
    (l l' s s' : EReal) (hl : l = l') (hs : s = s') (b : Fin 8) (q g : ℕ) : Hist.table x l s b q g = mass X l' s' b q g := by
  subst hl hs
  unfold Hist.table mass
  exact Finset.sum_congr rfl fun h _ => Finset.sum_congr rfl fun w _ => by rw [hx]

theorem w4_v31_0 (c : Dev nD) (b : Fin 8) (q : Fin 40) (g : Fin 64) : W4 m ρ c (Proc.devRef .tc main_v31_0) (ix3 b q g) =
    mass (img0 m c) (lo (img0 m c)) (scale (img0 m c)) b q.val g.val :=
  (congrFun ((W4_arr m ρ c 3).trans (Hist.arr3 (V3 m ρ) c)) (ix3 b q g)).trans
    (table_eq (V3 m ρ c main_v29) _ (w3_v29 m ρ c) _ _ _ _ (w3_v28_0 m ρ c) (w3_v28_1 m ρ c) b q.val g.val)

theorem w4_v31_1 (c : Dev nD) (b : Fin 8) (q : Fin 40) (g : Fin 64) : W4 m ρ c (Proc.devRef .tc main_v31_1) (ix3 b q g) =
    mass (img1 m c) (lo (img1 m c)) (scale (img1 m c)) b q.val g.val :=
  (congrFun ((W4_arr m ρ c 4).trans (Hist.arr4 (V3 m ρ) c)) (ix3 b q g)).trans
    (table_eq (V3 m ρ c main_v30) _ (w3_v30 m ρ c) _ _ _ _ (w3_v28_2 m ρ c) (w3_v28_3 m ρ c) b q.val g.val)

theorem w5_v31_0 (c : Dev nD) (b : Fin 8) (q : Fin 40) (g : Fin 64) : V5 m ρ c main_v31_0 (ix3 b q g) =
    mass (img0 m c) (lo (img0 m c)) (scale (img0 m c)) b q.val g.val :=
  (congrFun (W5_of m ρ c main_v31_0 (by decide)) _).trans (w4_v31_0 m ρ c b q g)

theorem w5_v31_1 (c : Dev nD) (b : Fin 8) (q : Fin 40) (g : Fin 64) : V5 m ρ c main_v31_1 (ix3 b q g) =
    mass (img1 m c) (lo (img1 m c)) (scale (img1 m c)) b q.val g.val :=
  (congrFun (W5_of m ρ c main_v31_1 (by decide)) _).trans (w4_v31_1 m ρ c b q g)

/-- The bin weights, bin `32·g + q` at row `q`, column `g`. -/
def wtsN (c : Dev nD) (b : Fin 8) (q g : ℕ) : EReal := if h : g * 32 + q < 2048 then wts m c b ⟨g * 32 + q, h⟩ else 0

theorem w5_v34 (c : Dev nD) (b : Fin 8) (q : Fin 32) (g : Fin 64) : V5 m ρ c main_v34 (ix3 b q g) = wtsN m c b q.val g.val := by
  unfold wtsN
  rw [dif_pos (by omega)]
  refine Eq.trans (b := W4 m ρ c (Proc.devRef .tc main_arg3) (ix4 b 0 ⟨g.val * 32 + q.val, by omega⟩ 0)) ?_ (congrFun (W4_args m ρ c main_arg3 (by decide)) _)
  unfold_abbrev_sides
  after_results
  pointwise []

theorem w5_v35 (c : Dev nD) : V5 m ρ c main_v35 (ix1 0) = pix m c := by
  refine Eq.trans (b := W4 m ρ c (Proc.devRef .tc main_v7) ix0) ?_ ((congrFun (W4_of m ρ c main_v7 (by decide)) _).trans (w3_v7 m ρ c))
  unfold_abbrev_sides
  after_results
  pointwise []

/-- The kernel's result, from its arguments. -/
def result (c : Dev nD) : EReal :=
  finish (fun b k => Final.bin (mass (img0 m c) (lo (img0 m c)) (scale (img0 m c)) b) (k.val % 32) (k.val / 32))
    (fun b k => Final.bin (mass (img1 m c) (lo (img1 m c)) (scale (img1 m c)) b) (k.val % 32) (k.val / 32)) (wts m c) (pix m c)

theorem w7_v38 (c : Dev nD) : W7 m ρ c (Proc.devRef .tc main_v38) = fun _ => result m c := by
  funext i
  rw [show i = ix0 from funext fun a => a.elim0]
  refine Eq.trans (b := W6 m ρ c (Proc.devRef .tc main_v36) (ix2 0 0)) ?_ ((congrFun ((W6_arr m ρ c 4).trans
    (Final.arr4 (V5 m ρ) c _ _ _ (w5_v31_0 m ρ c) (w5_v31_1 m ρ c) (w5_v34 m ρ c))) (ix2 0 0)).trans ?_)
  · unfold_abbrev_sides
    after_results
    pointwise []
  · unfold result
    dsimp only
    rw [w5_v35]
    refine congrArg (fun w => finish _ _ w _) (funext fun b => funext fun k => ?_)
    unfold wtsN
    rw [dif_pos (by have := k.isLt; omega)]
    exact congrArg (wts m c b) (Fin.ext (by dsimp only; omega))

end Cert.KernelIdeal.HostK
-- ==== Proof.Run.lean ====
/- The kernel's run: the result it ends with, its arguments unchanged. -/
module

public import proofs.«01_k».proof.Proof.HostK

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every run of the kernel ends, its result the closed form of its arguments, the arguments as launched. -/
theorem run : θ_run defs (onTc (τ := τ) (main (F := Ideal))) ⟨m, fun _ => 0, ρ⟩ (fun r => (∀ c : Dev nD,
      r.2.mem ((c.tc : Thread nD τ).loc main_v38) = (fun _ => HostK.result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨(h c _ (mem_uc main_v38 (by decide))).trans (HostK.w7_v38 m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩), funext fun g => hz g (.inr (no_unscoped g.2))⟩)

end Cert.KernelIdeal.Run
-- ==== Proof.RefLands.lean ====
module

public import proofs.«01_k».proof.Proof.Shared
public import proofs.«01_k».proof.Proof.Gen.ReferenceIdeal.Read
public import Idealize.ShloMosaic.Lib.Routing.OpsPair

/-! Where the reference's scatter puts an update: at the batch, channel and bin that the three index words of its row name. -/

@[expose] public section

noncomputable section

open Idealize Idealize.ShloMosaic
open Cert.ReferenceIdeal Cert.ReferenceIdeal.Gen

namespace Cert.ReferenceIdeal.Hist

/-- The scatter's dimension numbers. -/
abbrev dims : ScatterDims S8x1x2048 S8x1x4194304x3 S8x1x4194304 := scatter_S8x1x2048_S8x1x4194304x3_S8x1x4194304_n_012_012_3

/-- The start of update `(b, 0, n)` on axis `a` is index word `a` of row `(b, 0, n)`, read signed. -/
theorem start_eq (idx : IVec S8x1x4194304x3 32) (b : Fin 8) (z : Fin 1) (n : Fin 4194304) (a : Fin 3) :
    dims.start (ix3 b z n) idx a = (idx (ix4 b z n a)).toInt := by
  have hm : a ∈ dims.scatterDimsToOperandDims := by
    show a ∈ [0, 1, 2]
    fin_cases a <;> simp
  have hsi : dims.siIdx (ix3 b z n) ⟨dims.scatterDimsToOperandDims.idxOf a, List.idxOf_lt_length_iff.2 hm⟩ = ix4 b z n a := by
    funext q
    apply Fin.ext
    match q with
    | ⟨0, _⟩ => rfl
    | ⟨1, _⟩ => rfl
    | ⟨2, _⟩ => rfl
    | ⟨3, _⟩ => fin_cases a <;> rfl
  unfold ScatterDims.start
  rw [dif_pos hm, hsi]

/-- Every axis of the histogram is an inserted one, so an update has no coordinate of its own inside its window. -/
theorem window_eq (j : S8x1x4194304.Idx) (a : Fin 3) : dims.window j a = 0 := by
  unfold ScatterDims.window
  rw [dif_neg fun h => (of_decide_eq_true (List.mem_filter.1 h).2) (by show a ∈ [0, 1, 2]; fin_cases a <;> simp)]

/-- Update `(b, 0, n)` lands at `(b', 0, k)` exactly when its three index words are `b'`, `0` and `k`. -/
theorem lands (idx : IVec S8x1x4194304x3 32) (b b' : Fin 8) (z z' : Fin 1) (n : Fin 4194304) (k : Fin 2048) :
    dims.resultIdx? (ix3 b z n) idx = some (ix3 b' z' k) ↔
      (idx (ix4 b z n 0)).toInt = b'.val ∧ (idx (ix4 b z n 1)).toInt = z'.val ∧ (idx (ix4 b z n 2)).toInt = k.val := by
  rw [Routing.resultIdx?_eq_some]
  constructor
  · intro h
    have h0 := h 0
    have h1 := h 1
    have h2 := h 2
    rw [start_eq, window_eq] at h0 h1 h2
    exact ⟨by simpa using h0, by simpa using h1, by simpa using h2⟩
  · rintro ⟨h0, h1, h2⟩ a
    rw [start_eq, window_eq]
    match a with
    | ⟨0, _⟩ => exact (by simpa using h0)
    | ⟨1, _⟩ => exact (by simpa using h1)
    | ⟨2, _⟩ => exact (by simpa using h2)

/-- The scatter-add read at bin `k` of batch `b`, where row `(b, 0, n)` of the index table is `b`, `0`, `key b n`:
    what was there, plus every update of batch `b` whose key is `k`. -/
theorem scatterAdd_apply (x : S8x1x2048.Idx → EReal) (idx : IVec S8x1x4194304x3 32) (upd : S8x1x4194304.Idx → EReal)
    (key : Fin 8 → Fin 4194304 → ℤ) (h0 : ∀ b n, (idx (ix4 b 0 n 0)).toInt = b.val) (h1 : ∀ b n, (idx (ix4 b 0 n 1)).toInt = 0)
    (h2 : ∀ b n, (idx (ix4 b 0 n 2)).toInt = key b n) (b : Fin 8) (k : Fin 2048) :
    Ideal.hostScatterAdd dims x idx upd (ix3 b 0 k)
      = x (ix3 b 0 k) + ∑ n : Fin 4194304, if key b n = k.val then upd (ix3 b 0 n) else 0 := by
  unfold Ideal.hostScatterAdd
  refine congrArg (x (ix3 b 0 k) + ·) ?_
  rw [Finset.sum_filter, sum_idx3]
  rw [Finset.sum_eq_single b]
  · rw [Fin.sum_univ_one]
    refine Finset.sum_congr rfl fun n _ => ?_
    refine if_congr ?_ rfl rfl
    rw [lands, h0, h1, h2]
    simp
  · intro b' _ hb
    refine Finset.sum_eq_zero fun z _ => Finset.sum_eq_zero fun n _ => if_neg ?_
    obtain rfl : z = 0 := Subsingleton.elim (α := Fin 1) _ _
    rw [lands, h0]
    rintro ⟨h, _⟩
    exact hb (Fin.ext (by exact_mod_cast h))
  · intro h
    exact absurd (Finset.mem_univ b) h

end Cert.ReferenceIdeal.Hist
-- ==== Proof.Tri.lean ====
/- One pixel's share of one bin: the triangle both programs spread it by. -/
module

public import proofs.«01_k».proof.Proof.Shared
public import proofs.«01_k».proof.Proof.Final
public import proofs.«01_k».proof.Proof.Rows

@[expose] public section

noncomputable section

namespace Cert.Tri

open Idealize.ShloMosaic

/-- What a pixel at position `t` (in bins) puts into bin `k`: a triangle of width two around `k`, and nothing into the two end bins. -/
def tri (t : ℝ) (k : ℕ) : ℝ := if k = 0 ∨ k = 2047 then 0 else max (1 - |t - k|) 0

theorem bits_32 : Ideal.ofBits .f32 0x42000000#32 = ((32 : ℝ) : EReal) := by simp [Ideal.ofBits, Ideal.ieee, -EReal.coe_mul]; norm_num
theorem bits_inv32 : Ideal.ofBits .f32 0x3D000000#32 = ((1 / 32 : ℝ) : EReal) := by simp [Ideal.ofBits, Ideal.ieee, -EReal.coe_mul]; norm_num
theorem bits_2048 : Ideal.ofBits .f32 0x45000000#32 = ((2048 : ℝ) : EReal) := by simp [Ideal.ofBits, Ideal.ieee, -EReal.coe_mul]; norm_num
theorem bits_inv2048 : Ideal.ofBits .f32 0x3A000000#32 = ((1 / 2048 : ℝ) : EReal) := by simp [Ideal.ofBits, Ideal.ieee, -EReal.coe_mul]; norm_num

/-- The larger of two reals, read as an extended real. -/
theorem coe_max (a b : ℝ) : ((max a b : ℝ) : EReal) = max (a : EReal) (b : EReal) := EReal.coe_strictMono.monotone.map_max

/-- The kernel's cell `(q, c)` at a real position: inside group `c`, a triangle around `q`. -/
theorem cell_coe (t : ℝ) (q c : ℕ) :
    KernelIdeal.Hist.cell (t : EReal) q c = ((if ⌊t / 32⌋ = (c : ℤ) then max (1 - |t - 32 * ⌊t / 32⌋ - q|) 0 else 0 : ℝ) : EReal) := by
  have e : (t : EReal) * ((1 / 32 : ℝ) : EReal) = ((t / 32 : ℝ) : EReal) := by rw [← EReal.coe_mul]; congr 1; ring
  unfold KernelIdeal.Hist.cell KernelIdeal.Hist.weight
  rw [bits_32, bits_inv32, e, Ideal.floor_def, Ideal.liftRound_coe]
  rw [← EReal.coe_mul, ← EReal.coe_sub, ← EReal.coe_sub]
  by_cases h : ⌊t / 32⌋ = (c : ℤ)
  · rw [if_pos h, if_pos (by rw [h]; norm_cast), mul_one]
    rw [coe_max, EReal.coe_sub 1, abs_eq_max_neg, coe_max, EReal.coe_neg]
    rfl
  · rw [if_neg h, if_neg (by rw [EReal.coe_eq_coe_iff]; exact_mod_cast h), mul_zero, EReal.coe_zero]

/-- A group is thirty-two bins: inside `[0, 2048]` the kernel's bin is the triangle. -/
theorem bin_real (t : ℝ) (k : ℕ) (hk : k < 2048) (f : ℕ → ℕ → ℝ)
    (hf : ∀ q c, f q c = if ⌊t / 32⌋ = (c : ℤ) then max (1 - |t - 32 * ⌊t / 32⌋ - q|) 0 else 0) :
    (if k % 32 = 0 ∧ k / 32 = 0 ∨ k % 32 = 31 ∧ k / 32 = 63 then 0
      else if k % 32 = 0 then f 0 (k / 32) + (if k / 32 = 0 then 0 else f 32 (k / 32 - 1)) else f (k % 32) (k / 32)) = tri t k := by
  have hd : (32 : ℝ) * ((k / 32 : ℕ) : ℝ) + ((k % 32 : ℕ) : ℝ) = k := by exact_mod_cast Nat.div_add_mod k 32
  have f1 : (32 : ℝ) * ⌊t / 32⌋ ≤ t := by have := Int.floor_le (t / 32); linarith
  have f2 : t < 32 * ⌊t / 32⌋ + 32 := by have := Int.lt_floor_add_one (t / 32); linarith
  unfold tri
  by_cases h : k = 0 ∨ k = 2047
  · rw [if_pos h, if_pos (by omega)]
  rw [if_neg h, if_neg (by omega)]
  by_cases hq : k % 32 = 0
  · rw [if_pos hq, if_neg (by omega), hf, hf]
    have hc : ((k / 32 - 1 : ℕ) : ℤ) = (k / 32 : ℕ) - 1 := by omega
    have hkr : (k : ℝ) = 32 * ((k / 32 : ℕ) : ℝ) := by rw [← hd, hq]; simp
    rw [hc, hkr]
    generalize ((k / 32 : ℕ)) = C
    by_cases g0 : ⌊t / 32⌋ = (C : ℤ)
    · rw [if_pos g0, if_neg (by omega), g0, add_zero]; simp
    · by_cases g1 : ⌊t / 32⌋ = (C : ℤ) - 1
      · rw [if_neg g0, if_pos g1, g1, zero_add]
        congr 3
        push_cast; ring
      · rw [if_neg g0, if_neg g1, add_zero]
        symm
        apply max_eq_right
        rcases lt_or_gt_of_ne g0 with g | g
        · have : ⌊t / 32⌋ + 2 ≤ (C : ℤ) := by omega
          have : (⌊t / 32⌋ : ℝ) + 2 ≤ (C : ℝ) := by exact_mod_cast this
          have := neg_abs_le (t - 32 * C)
          linarith
        · have : (C : ℤ) + 1 ≤ ⌊t / 32⌋ := by omega
          have : (C : ℝ) + 1 ≤ ⌊t / 32⌋ := by exact_mod_cast this
          have := le_abs_self (t - 32 * C)
          linarith
  · rw [if_neg hq, hf, ← hd]
    have q1 : (1 : ℝ) ≤ ((k % 32 : ℕ) : ℝ) := by exact_mod_cast (by omega : 1 ≤ k % 32)
    have q2 : ((k % 32 : ℕ) : ℝ) ≤ 31 := by exact_mod_cast (by omega : k % 32 ≤ 31)
    generalize ((k / 32 : ℕ)) = C at *
    generalize ((k % 32 : ℕ)) = Q at *
    by_cases g0 : ⌊t / 32⌋ = (C : ℤ)
    · rw [if_pos g0, g0]
      congr 3
      push_cast; ring
    · rw [if_neg g0]
      symm
      apply max_eq_right
      rcases lt_or_gt_of_ne g0 with g | g
      · have : ⌊t / 32⌋ + 1 ≤ (C : ℤ) := by omega
        have : (⌊t / 32⌋ : ℝ) + 1 ≤ (C : ℝ) := by exact_mod_cast this
        have := neg_abs_le (t - (32 * C + Q))
        linarith
      · have : (C : ℤ) + 1 ≤ ⌊t / 32⌋ := by omega
        have : (C : ℝ) + 1 ≤ ⌊t / 32⌋ := by exact_mod_cast this
        have := le_abs_self (t - (32 * C + Q))
        linarith

/-- The kernel's bin `k` of one pixel at a real position is the triangle. -/
theorem bin_cell (t : ℝ) (k : ℕ) (hk : k < 2048) :
    KernelIdeal.Final.bin (KernelIdeal.Hist.cell (t : EReal)) (k % 32) (k / 32) = ((tri t k : ℝ) : EReal) := by
  rw [← bin_real t k hk (fun q c => if ⌊t / 32⌋ = (c : ℤ) then max (1 - |t - 32 * ⌊t / 32⌋ - q|) 0 else 0) fun _ _ => rfl]
  unfold KernelIdeal.Final.bin
  simp only [cell_coe]
  split_ifs <;> simp

/-- The reference's two shares of one pixel at `t`, from the clipped floor `j`: together the triangle. -/
theorem shares_real (t : ℝ) (h0 : 0 ≤ t) (h1 : t ≤ 2048) (k : ℕ) (hk : k < 2048) (j : ℕ) (hj : j = min ⌊t⌋₊ 2047) :
    (if j = k then if 1 ≤ j ∧ j ≤ 2046 then ((j : ℝ) + 1) / 2048 - t / 2048 else 0 else 0)
      + (if min (j + 1) 2047 = k then if j ≤ 2045 then t / 2048 - (j : ℝ) / 2048 else 0 else 0) = tri t k / 2048 := by
  have f1 : (⌊t⌋₊ : ℝ) ≤ t := Nat.floor_le h0
  have f2 : t < ⌊t⌋₊ + 1 := Nat.lt_floor_add_one t
  have hJ : ⌊t⌋₊ ≤ 2048 := by
    have := Nat.floor_le_floor h1
    simpa using this
  generalize ⌊t⌋₊ = J at *
  unfold tri
  by_cases h : k = 0 ∨ k = 2047
  · rw [if_pos h]
    split_ifs <;> first | omega | simp
  rw [if_neg h]
  by_cases a : J = k
  · subst a
    have : j = J := by omega
    subst this
    rw [if_pos rfl, if_pos (by omega), if_neg (by omega)]
    rw [abs_of_nonneg (by linarith), max_eq_left (by linarith)]
    ring
  · by_cases b : J + 1 = k
    · have : j = J := by omega
      subst this
      rw [if_neg (by omega), if_pos (by omega), if_pos (by omega), ← b]
      push_cast
      rw [abs_of_nonpos (by linarith), max_eq_left (by linarith)]
      ring
    · have : (if j = k then if 1 ≤ j ∧ j ≤ 2046 then ((j : ℝ) + 1) / 2048 - t / 2048 else 0 else 0) = 0 := by
        split_ifs <;> first | omega | rfl
      rw [this]
      have : (if min (j + 1) 2047 = k then if j ≤ 2045 then t / 2048 - (j : ℝ) / 2048 else 0 else 0) = 0 := by
        split_ifs <;> first | omega | rfl
      rw [this, max_eq_right]
      · simp
      rcases lt_or_gt_of_ne a with g | g
      · have : J + 2 ≤ k := by omega
        have : (J : ℝ) + 2 ≤ k := by exact_mod_cast this
        have := neg_abs_le (t - k)
        linarith
      · have : k + 1 ≤ J := by omega
        have : (k : ℝ) + 1 ≤ J := by exact_mod_cast this
        have := le_abs_self (t - k)
        linarith

end Cert.Tri
-- ==== Proof.RefWords.lean ====
/- The reference's index words and shares of one pixel, at a real position in `[0, 1]`. -/
module

public import proofs.«01_k».proof.Proof.Tri

@[expose] public section

noncomputable section

namespace Cert.ReferenceIdeal.Hist

open Idealize.ShloMosaic Cert.Tri

/-- The bin of a pixel: the floor of 2048 times its position, clipped to `[0, 2047]`. -/
def cbin (x : EReal) : BitVec 32 :=
  IntOp.minsi 2047#32 (IntOp.maxsi 0#32 (FloatOps.fptosi (F := Ideal) (φ := .f32) 32 (FloatOps.hostUnary (F := Ideal) (φ := .f32) .floor (x * Ideal.ofBits .f32 0x45000000#32))))

/-- The bin after `k`, clipped the same way. -/
def next (k : BitVec 32) : BitVec 32 := IntOp.minsi 2047#32 (IntOp.maxsi 0#32 (IntOp.addi k 1#32))

/-- A bin counted from the end where it is negative. -/
def wrap (k : BitVec 32) : BitVec 32 := Scalar.select (IntOp.cmpi .slt k 0#32) (IntOp.addi k 2048#32) k

/-- The share of a pixel at `x` with bin `k` that stays in its own bin. -/
def left (x : EReal) (k : BitVec 32) : EReal :=
  Scalar.select (IntOp.andi (IntOp.cmpi .sge k 1#32) (IntOp.cmpi .sle k 2046#32))
    ((FloatOps.sitofp (F := Ideal) .f32 k * Ideal.ofBits .f32 0x3A000000#32 + Ideal.ofBits .f32 0x3A000000#32) - x) (Ideal.ofBits .f32 0x00000000#32)

/-- The share that goes to the next bin. -/
def right (x : EReal) (k : BitVec 32) : EReal :=
  Scalar.select (IntOp.cmpi .sle k 2045#32) (x - FloatOps.sitofp (F := Ideal) .f32 k * Ideal.ofBits .f32 0x3A000000#32) (Ideal.ofBits .f32 0x00000000#32)

theorem bits_0 : Ideal.ofBits .f32 0x00000000#32 = 0 := by simp [Ideal.ofBits, Ideal.ieee]

theorem toInt_word (j : ℕ) (hj : j ≤ 4096) : (BitVec.ofNat 32 j).toInt = j := by
  rw [BitVec.toInt_eq_toNat_of_lt (by rw [BitVec.toNat_ofNat]; omega), BitVec.toNat_ofNat]; omega

/-- A word no greater than 2048 clipped to `[0, 2047]`. -/
theorem clip_word (j : ℕ) (hj : j ≤ 2048) : IntOp.minsi 2047#32 (IntOp.maxsi 0#32 (BitVec.ofNat 32 j)) = BitVec.ofNat 32 (min j 2047) := by
  have e : IntOp.maxsi 0#32 (BitVec.ofNat 32 j) = BitVec.ofNat 32 j := by
    unfold IntOp.maxsi
    rw [BitVec.slt_eq_decide, toInt_word j (by omega)]
    rw [if_neg (by simp)]
  rw [e]
  unfold IntOp.minsi
  rw [BitVec.slt_eq_decide, toInt_word j (by omega)]
  by_cases h : 2047 < j
  · rw [if_pos (by simpa using h), min_eq_right (by omega)]
  · rw [if_neg (by simpa using h), min_eq_left (by omega)]

theorem cbin_coe (r : ℝ) (h0 : 0 ≤ r) (h1 : r ≤ 1) : cbin (r : EReal) = BitVec.ofNat 32 (min ⌊r * 2048⌋₊ 2047) := by
  have hJ : ⌊r * 2048⌋₊ ≤ 2048 := by
    have := Nat.floor_le_floor (show r * 2048 ≤ 2048 by linarith)
    simpa using this
  have hn : (⌊r * 2048⌋ : ℤ) = (⌊r * 2048⌋₊ : ℤ) := (Int.natCast_floor_eq_floor (by positivity)).symm
  unfold cbin
  rw [bits_2048, ← EReal.coe_mul, Ideal.hostUnary_floor_def, Ideal.liftRound_coe, hn]
  generalize ⌊r * 2048⌋₊ = J at hJ
  have e : FloatOps.fptosi (F := Ideal) (φ := .f32) 32 (((J : ℤ) : ℝ) : EReal) = Ideal.fptosi 32 (((J : ℤ) : ℝ) : EReal) := rfl
  rw [e]
  unfold Ideal.fptosi
  rw [Ideal.toIntClamped_coe, if_pos (by exact_mod_cast Nat.zero_le J)]
  rw [Int.cast_natCast, Int.floor_natCast, min_eq_right (by norm_num; omega), max_eq_right (by norm_num), BitVec.ofInt_natCast]
  exact clip_word J hJ

theorem next_word (j : ℕ) (hj : j ≤ 2047) : next (BitVec.ofNat 32 j) = BitVec.ofNat 32 (min (j + 1) 2047) := by
  unfold next
  have e : IntOp.addi (BitVec.ofNat 32 j) 1#32 = BitVec.ofNat 32 (j + 1) := by
    unfold IntOp.addi
    rw [BitVec.ofNat_add_ofNat]
  rw [e]
  exact clip_word _ (by omega)

theorem wrap_word (j : ℕ) (hj : j ≤ 2047) : (wrap (BitVec.ofNat 32 j)).toInt = j := by
  have e : IntOp.cmpi .slt (BitVec.ofNat 32 j) 0#32 = 0#1 := by
    simp only [IntOp.cmpi, BitVec.slt_eq_decide, toInt_word j (by omega)]
    rw [decide_eq_false (by simp)]; rfl
  unfold wrap
  rw [e]
  exact toInt_word j (by omega)

theorem sitofp_word (j : ℕ) (hj : j ≤ 2047) : FloatOps.sitofp (F := Ideal) .f32 (BitVec.ofNat 32 j) = ((j : ℝ) : EReal) := by
  have e : FloatOps.sitofp (F := Ideal) .f32 (BitVec.ofNat 32 j) = (((BitVec.ofNat 32 j).toInt : ℝ) : EReal) := rfl
  rw [e, toInt_word j (by omega)]
  norm_cast

theorem left_word (r : ℝ) (j : ℕ) (hj : j ≤ 2047) :
    left (r : EReal) (BitVec.ofNat 32 j) = ((if 1 ≤ j ∧ j ≤ 2046 then ((j : ℝ) + 1) / 2048 - r else 0 : ℝ) : EReal) := by
  have e : IntOp.andi (IntOp.cmpi .sge (BitVec.ofNat 32 j) 1#32) (IntOp.cmpi .sle (BitVec.ofNat 32 j) 2046#32) = BitVec.ofBool (decide (1 ≤ j ∧ j ≤ 2046)) := by
    by_cases h1 : 1 ≤ j <;> by_cases h2 : j ≤ 2046 <;>
      simp [IntOp.cmpi, IntOp.andi, BitVec.sle_eq_decide, toInt_word j (by omega), h1, h2]
  unfold left
  rw [e, sitofp_word j hj, bits_inv2048, bits_0]
  by_cases h : 1 ≤ j ∧ j ≤ 2046
  · rw [if_pos h, decide_eq_true h]
    show _ * _ + _ - _ = _
    rw [← EReal.coe_mul, ← EReal.coe_add, ← EReal.coe_sub]
    congr 1; ring
  · rw [if_neg h, decide_eq_false h]
    rfl

theorem right_word (r : ℝ) (j : ℕ) (hj : j ≤ 2047) :
    right (r : EReal) (BitVec.ofNat 32 j) = ((if j ≤ 2045 then r - (j : ℝ) / 2048 else 0 : ℝ) : EReal) := by
  have e : IntOp.cmpi .sle (BitVec.ofNat 32 j) 2045#32 = BitVec.ofBool (decide (j ≤ 2045)) := by
    by_cases h1 : j ≤ 2045 <;> simp [IntOp.cmpi, BitVec.sle_eq_decide, toInt_word j (by omega), h1]
  unfold right
  rw [e, sitofp_word j hj, bits_inv2048, bits_0]
  by_cases h : j ≤ 2045
  · rw [if_pos h, decide_eq_true h]
    show _ - _ * _ = _
    rw [← EReal.coe_mul, ← EReal.coe_sub]
    congr 1; ring
  · rw [if_neg h, decide_eq_false h]
    rfl

/-- Both shares of a pixel at a real position put into bin `k` what the triangle says, in units of one bin's width. -/
theorem shares (r : ℝ) (h0 : 0 ≤ r) (h1 : r ≤ 1) (k : ℕ) (hk : k < 2048) :
    (if (wrap (cbin (r : EReal))).toInt = k then left (r : EReal) (cbin (r : EReal)) else 0)
      + (if (wrap (next (cbin (r : EReal)))).toInt = k then right (r : EReal) (cbin (r : EReal)) else 0)
      = ((tri (r * 2048) k / 2048 : ℝ) : EReal) := by
  rw [← shares_real (r * 2048) (by positivity) (by linarith) k hk _ rfl, cbin_coe r h0 h1]
  have hj : min ⌊r * 2048⌋₊ 2047 ≤ 2047 := min_le_right _ _
  generalize min ⌊r * 2048⌋₊ 2047 = j at hj
  rw [next_word j hj, wrap_word j hj, wrap_word _ (min_le_right _ _), left_word r j hj, right_word r j hj, mul_div_cancel_right₀ r (by norm_num : (2048 : ℝ) ≠ 0)]
  rw [EReal.coe_add]
  congr 1
  · by_cases h : j = k
    · rw [if_pos h, if_pos (by exact_mod_cast h)]
    · rw [if_neg h, if_neg (by exact_mod_cast h)]; rfl
  · by_cases h : min (j + 1) 2047 = k
    · rw [if_pos h, if_pos (by exact_mod_cast h)]
    · rw [if_neg h, if_neg (by exact_mod_cast h)]; rfl

end Cert.ReferenceIdeal.Hist
-- ==== Proof.RefBins.lean ====
/- The reference's histograms, read bin by bin: the sums of the pixels' triangles. -/
module

public import proofs.«01_k».proof.Proof.RefLands
public import proofs.«01_k».proof.Proof.RefWords

@[expose] public section

noncomputable section

open Idealize.ShloMosaic
open Cert.ReferenceIdeal Cert.ReferenceIdeal.Gen Cert.ReferenceIdeal.Read

namespace Cert.ReferenceIdeal.Hist

open Cert.Tri

/-- Three columns side by side: entry `q` of a row is column `q`'s. -/
theorem columns_apply (x y z : S8x1x4194304x1.Idx → BitVec 32)
    (h : Shape.Concatenates [S8x1x4194304x1, S8x1x4194304x1, S8x1x4194304x1] S8x1x4194304x3 3) (b : Fin 8) (n : Fin 4194304) :
    concatenate S8x1x4194304x3 3 [⟨S8x1x4194304x1, x⟩, ⟨S8x1x4194304x1, y⟩, ⟨S8x1x4194304x1, z⟩] h (ix4 b 0 n 0) = x (ix4 b 0 n 0) ∧
    concatenate S8x1x4194304x3 3 [⟨S8x1x4194304x1, x⟩, ⟨S8x1x4194304x1, y⟩, ⟨S8x1x4194304x1, z⟩] h (ix4 b 0 n 1) = y (ix4 b 0 n 0) ∧
    concatenate S8x1x4194304x3 3 [⟨S8x1x4194304x1, x⟩, ⟨S8x1x4194304x1, y⟩, ⟨S8x1x4194304x1, z⟩] h (ix4 b 0 n 2) = z (ix4 b 0 n 0) := by
  have off : ∀ (q : Fin 3) (d : Fin 4), d ≠ 3 → ((ix4 b 0 n 0 : S8x1x4194304x1.Idx) d).val = ((ix4 b 0 n q : S8x1x4194304x3.Idx) d).val := by
    intro q d hd
    match d with
    | ⟨0, _⟩ => rfl
    | ⟨1, _⟩ => rfl
    | ⟨2, _⟩ => rfl
    | ⟨3, _⟩ => exact absurd rfl hd
  refine ⟨?_, ?_, ?_⟩
  · exact concatenate_apply_piece 3 [⟨S8x1x4194304x1, x⟩, ⟨S8x1x4194304x1, y⟩, ⟨S8x1x4194304x1, z⟩] h (ix4 b 0 n 0) 0 (by simp) _ x rfl rfl 0 rfl (ix4 b 0 n 0) (off 0) rfl
  · exact concatenate_apply_piece 3 [⟨S8x1x4194304x1, x⟩, ⟨S8x1x4194304x1, y⟩, ⟨S8x1x4194304x1, z⟩] h (ix4 b 0 n 1) 1 (by simp) _ y rfl rfl 1 rfl (ix4 b 0 n 0) (off 1) rfl
  · exact concatenate_apply_piece 3 [⟨S8x1x4194304x1, x⟩, ⟨S8x1x4194304x1, y⟩, ⟨S8x1x4194304x1, z⟩] h (ix4 b 0 n 2) 2 (by simp) _ z rfl rfl 2 rfl (ix4 b 0 n 0) (off 2) rfl

/-- The host's scatter-add is the sum `scatterAdd_apply` reads. -/
theorem host_scatterAdd (x : FVec Ideal S8x1x2048 .f32) (idx : IVec S8x1x4194304x3 32) (upd : FVec Ideal S8x1x4194304 .f32)
    (key : Fin 8 → Fin 4194304 → ℤ) (h0 : ∀ b n, (idx (ix4 b 0 n 0)).toInt = b.val) (h1 : ∀ b n, (idx (ix4 b 0 n 1)).toInt = 0)
    (h2 : ∀ b n, (idx (ix4 b 0 n 2)).toInt = key b n) (b : Fin 8) (k : Fin 2048) :
    Host.scatterAdd scatter_S8x1x2048_S8x1x4194304x3_S8x1x4194304_n_012_012_3 x idx upd (ix3 b 0 k)
      = (show EReal from x (ix3 b 0 k)) + ∑ n : Fin 4194304, if key b n = k.val then (show EReal from upd (ix3 b 0 n)) else 0 := by
  rw [Host.scatterAdd, Ideal.hostScatterAdd_def]
  exact scatterAdd_apply x idx upd key h0 h1 h2 b k

/-- A small word is not negative, so the wrap of a batch or channel index is the index itself. -/
theorem batch_word (b : ℕ) (hb : b < 8) (w : BitVec 32) :
    (Scalar.select (IntOp.cmpi .slt (BitVec.ofNat 32 b) 0#32) w (BitVec.ofNat 32 b)).toInt = b := by
  have e : IntOp.cmpi .slt (BitVec.ofNat 32 b) 0#32 = 0#1 := by
    simp only [IntOp.cmpi, BitVec.slt_eq_decide, toInt_word b (by omega)]
    rw [decide_eq_false (by simp)]; rfl
  rw [e]
  exact toInt_word b (by omega)

variable (x0 : (⟨S8x1x2048x2048, .f32⟩ : BufTy).Contents (Elt Ideal))

/-- The position of pixel `(b, n)` in its range. -/
def xf (b : Fin 8) (n : Fin 4194304) : EReal := val_main_v25 (F := Ideal) x0 (ix3 b 0 n)
theorem v25_eq (b : Fin 8) (n : Fin 4194304) : val_main_v25 (F := Ideal) x0 (ix3 b 0 n) = xf x0 b n := rfl

theorem v30_eq (b : Fin 8) (n : Fin 4194304) : val_main_v30 (F := Ideal) x0 (ix3 b 0 n) = cbin (xf x0 b n) := by
  simp -implicitDefEqProofs only [val_main_v30_apply, val_main_call0_v4_apply, val_main_call0_v3_apply, val_main_c_9_apply, val_main_call0_v2_apply, val_main_call0_v1_apply,
    val_main_call0_v0_apply, val_main_c_apply, val_main_v29_apply, val_main_v28_apply, val_main_v27_apply, val_main_v26_apply, val_main_cst_8_apply, v25_eq]
  generalize xf x0 b n = y
  rfl

theorem v76_eq (b : Fin 8) (n : Fin 4194304) : val_main_v76 (F := Ideal) x0 (ix3 b 0 n) = next (cbin (xf x0 b n)) := by
  simp -implicitDefEqProofs only [val_main_v76_apply, val_main_call3_v4_apply, val_main_call3_v3_apply, val_main_c_26_apply, val_main_call3_v2_apply, val_main_call3_v1_apply,
    val_main_call3_v0_apply, val_main_c_25_apply, val_main_v75_apply, val_main_v74_apply, val_main_c_24_apply, v30_eq]
  generalize cbin (xf x0 b n) = j
  rfl

theorem v42_eq (b : Fin 8) (n : Fin 4194304) : val_main_v42 (F := Ideal) x0 (ix3 b 0 n) = left (xf x0 b n) (cbin (xf x0 b n)) := by
  simp -implicitDefEqProofs only [val_main_v42_apply, val_main_v38_apply, val_main_v35_apply, val_main_v37_apply, val_main_v34_apply, val_main_v36_apply, val_main_c_11_apply,
    val_main_c_12_apply, val_main_v41_apply, val_main_v40_apply, val_main_v39_apply, val_main_cst_13_apply, val_main_v33_apply, val_main_v32_apply,
    val_main_cst_10_apply, val_main_v31_apply, val_main_call1_v1_apply, val_main_call1_v0_apply, val_main_cst_14_apply, v30_eq, v25_eq]
  generalize xf x0 b n = y
  generalize cbin y = j
  rfl

theorem v46_eq (b : Fin 8) (n : Fin 4194304) : val_main_v46 (F := Ideal) x0 (ix3 b 0 n) = right (xf x0 b n) (cbin (xf x0 b n)) := by
  simp -implicitDefEqProofs only [val_main_v46_apply, val_main_v44_apply, val_main_v43_apply, val_main_c_15_apply, val_main_v45_apply, val_main_v33_apply, val_main_v32_apply,
    val_main_cst_10_apply, val_main_v31_apply, val_main_call2_v1_apply, val_main_call2_v0_apply, val_main_cst_16_apply, v30_eq, v25_eq]
  generalize xf x0 b n = y
  generalize cbin y = j
  rfl

/-- The first scatter's rows are the batch, channel zero and the pixel's own bin. -/
theorem rows_own : (∀ (b : Fin 8) (n : Fin 4194304), (val_main_v72 (F := Ideal) x0 (ix4 b 0 n 0)).toInt = b.val)
    ∧ (∀ (b : Fin 8) (n : Fin 4194304), (val_main_v72 (F := Ideal) x0 (ix4 b 0 n 1)).toInt = 0)
    ∧ (∀ (b : Fin 8) (n : Fin 4194304), (val_main_v72 (F := Ideal) x0 (ix4 b 0 n 2)).toInt = (wrap (cbin (xf x0 b n))).toInt) := by
  refine ⟨fun b n => ?_, fun b n => ?_, fun b n => ?_⟩
  · refine (congrArg BitVec.toInt (columns_apply _ _ _ _ b n).1).trans ?_
    simp -implicitDefEqProofs only [val_main_v69_apply, val_main_v67_apply, val_main_v56_apply, val_main_v53_apply, val_main_v52_apply, val_main_c_18_apply, val_main_v48_apply, val_main_v47_apply]
    exact batch_word b.val b.isLt _
  · refine (congrArg BitVec.toInt (columns_apply _ _ _ _ b n).2.1).trans ?_
    simp -implicitDefEqProofs only [val_main_v70_apply, val_main_v68_apply, val_main_v61_apply, val_main_v58_apply, val_main_v57_apply, val_main_c_20_apply, val_main_v50_apply, val_main_v49_apply]
    exact batch_word 0 (by norm_num) _
  · refine (congrArg BitVec.toInt (columns_apply _ _ _ _ b n).2.2).trans ?_
    have e : idx_main_v71 (ix4 b 0 n 0) = ix3 b 0 n := by
      funext a
      match a with
      | ⟨0, _⟩ => rfl
      | ⟨1, _⟩ => rfl
      | ⟨2, _⟩ => rfl
    simp -implicitDefEqProofs only [val_main_v71_apply, e, val_main_v66_apply, val_main_v63_apply, val_main_v62_apply, val_main_c_22_apply, val_main_v65_apply, val_main_v64_apply, val_main_c_23_apply, v30_eq]
    rfl

/-- The second scatter's rows are the batch, channel zero and the bin after the pixel's own. -/
theorem rows_next : (∀ (b : Fin 8) (n : Fin 4194304), (val_main_v97 (F := Ideal) x0 (ix4 b 0 n 0)).toInt = b.val)
    ∧ (∀ (b : Fin 8) (n : Fin 4194304), (val_main_v97 (F := Ideal) x0 (ix4 b 0 n 1)).toInt = 0)
    ∧ (∀ (b : Fin 8) (n : Fin 4194304), (val_main_v97 (F := Ideal) x0 (ix4 b 0 n 2)).toInt = (wrap (next (cbin (xf x0 b n)))).toInt) := by
  refine ⟨fun b n => ?_, fun b n => ?_, fun b n => ?_⟩
  · refine (congrArg BitVec.toInt (columns_apply _ _ _ _ b n).1).trans ?_
    simp -implicitDefEqProofs only [val_main_v94_apply, val_main_v92_apply, val_main_v81_apply, val_main_v78_apply, val_main_v77_apply, val_main_c_27_apply, val_main_v48_apply, val_main_v47_apply]
    exact batch_word b.val b.isLt _
  · refine (congrArg BitVec.toInt (columns_apply _ _ _ _ b n).2.1).trans ?_
    simp -implicitDefEqProofs only [val_main_v95_apply, val_main_v93_apply, val_main_v86_apply, val_main_v83_apply, val_main_v82_apply, val_main_c_29_apply, val_main_v50_apply, val_main_v49_apply]
    exact batch_word 0 (by norm_num) _
  · refine (congrArg BitVec.toInt (columns_apply _ _ _ _ b n).2.2).trans ?_
    have e : idx_main_v96 (ix4 b 0 n 0) = ix3 b 0 n := by
      funext a
      match a with
      | ⟨0, _⟩ => rfl
      | ⟨1, _⟩ => rfl
      | ⟨2, _⟩ => rfl
    simp -implicitDefEqProofs only [val_main_v96_apply, e, val_main_v91_apply, val_main_v88_apply, val_main_v87_apply, val_main_c_31_apply, val_main_v90_apply, val_main_v89_apply, val_main_c_32_apply, v76_eq]
    rfl

/-- The reference's histogram: at bin `k` of batch `b`, both shares of every pixel that go there. -/
theorem v98_eq (b : Fin 8) (k : Fin 2048) : val_main_v98 (F := Ideal) x0 (ix3 b 0 k)
    = (0 + ∑ n : Fin 4194304, if (wrap (cbin (xf x0 b n))).toInt = k.val then left (xf x0 b n) (cbin (xf x0 b n)) else 0)
      + ∑ n : Fin 4194304, if (wrap (next (cbin (xf x0 b n)))).toInt = k.val then right (xf x0 b n) (cbin (xf x0 b n)) else 0 := by
  rw [val_main_v98, host_scatterAdd _ _ _ _ (rows_next x0).1 (rows_next x0).2.1 (rows_next x0).2.2,
    val_main_v73, host_scatterAdd _ _ _ _ (rows_own x0).1 (rows_own x0).2.1 (rows_own x0).2.2]
  have z : val_main_v51 (F := Ideal) (ix3 b 0 k) = (0 : EReal) := by
    rw [val_main_v51_apply, val_main_cst_17_apply]
    exact bits_0
  rw [z]
  refine congrArg₂ (· + ·) (congrArg (0 + ·) ?_) ?_
  · exact Finset.sum_congr rfl fun n _ => by rw [v42_eq]
  · exact Finset.sum_congr rfl fun n _ => by rw [v46_eq]

/-- Where every position is a real of `[0, 1]`, bin `k` scaled by the bin's width is the sum of the pixels' triangles. -/
theorem v100_eq (r : Fin 8 → Fin 4194304 → ℝ) (hr : ∀ b n, xf x0 b n = (r b n : EReal)) (h0 : ∀ b n, 0 ≤ r b n) (h1 : ∀ b n, r b n ≤ 1)
    (b : Fin 8) (k : Fin 2048) :
    val_main_v100 (F := Ideal) x0 (ix3 b 0 k) = ∑ n : Fin 4194304, ((tri (r b n * 2048) k.val : ℝ) : EReal) := by
  have coe_sum : ∀ f : Fin 4194304 → ℝ, ∑ n, (f n : EReal) = ((∑ n, f n : ℝ) : EReal) := fun f => by
    induction (Finset.univ : Finset (Fin 4194304)) using Finset.induction_on with
    | empty => simp
    | insert a s ha ih => rw [Finset.sum_insert ha, Finset.sum_insert ha, ih, EReal.coe_add]
  have e : val_main_v98 (F := Ideal) x0 (ix3 b 0 k) = ((∑ n : Fin 4194304, tri (r b n * 2048) k.val / 2048 : ℝ) : EReal) := by
    rw [v98_eq, zero_add, ← Finset.sum_add_distrib, ← coe_sum]
    refine Finset.sum_congr rfl fun n _ => ?_
    rw [hr]
    exact shares (r b n) (h0 b n) (h1 b n) k.val k.isLt
  rw [val_main_v100_apply, e, val_main_v99_apply, val_main_cst_33_apply, coe_sum]
  have e2 : (FloatOps.ofBits (F := Ideal) .f32 0x3A000000#32) = ((1 / 2048 : ℝ) : EReal) := bits_inv2048
  rw [e2]
  refine (Ideal.div_coe (by norm_num) _).trans ?_
  rw [← EReal.coe_mul, Finset.sum_mul]
  exact congrArg (fun t : ℝ => (t : EReal)) (Finset.sum_congr rfl fun n _ => by ring)

end Cert.ReferenceIdeal.Hist
-- ==== Proof.RefStats.lean ====
/- The reference's ranges and positions: both images' extrema, and each pixel's place between them. -/
module

public import proofs.«01_k».proof.Proof.RefBins
public import proofs.«01_k».proof.Proof.HostK

@[expose] public section

noncomputable section

open Idealize.ShloMosaic

namespace Cert.Range

open Cert.Shared

/-- An image stack's shape and a scalar's. -/
abbrev SImg : Shape := ⟨4, ![8, 1, 2048, 2048]⟩
abbrev SOne : Shape := ⟨0, ![]⟩

/-- An image stack by batch, row and column. -/
def stack (x : SImg.Idx → EReal) (b : Fin 8) (h l : Fin 2048) : EReal := x (ix4 b 0 h l)

theorem stack_eta (x : SImg.Idx → EReal) (i : SImg.Idx) : x i = stack x (i 0) (i 2) (i 3) := by
  refine congrArg x (((ix4_eta i).symm).trans ?_)
  exact congrArg (fun z : Fin 1 => (ix4 (i 0) z (i 2) (i 3) : SImg.Idx)) (Subsingleton.elim (α := Fin 1) _ 0)

/-- The least value over every index is the least over batches, rows and columns. -/
theorem inf_stack (x : SImg.Idx → EReal) : ⨅ i, x i = lo (stack x) := by
  refine le_antisymm (le_iInf fun b => le_iInf fun h => le_iInf fun l => iInf_le _ (ix4 b 0 h l)) (le_iInf fun i => ?_)
  rw [stack_eta x i]
  exact (iInf_le _ (i 0)).trans ((iInf_le _ (i 2)).trans (iInf_le _ (i 3)))

theorem sup_stack (x : SImg.Idx → EReal) : ⨆ i, x i = hi (stack x) := by
  refine le_antisymm (iSup_le fun i => ?_) (iSup_le fun b => iSup_le fun h => iSup_le fun l => le_iSup x (ix4 b 0 h l))
  rw [stack_eta x i]
  exact (le_iSup (stack x (i 0) (i 2)) (i 3)).trans ((le_iSup (fun h => ⨆ l, stack x (i 0) h l) (i 2)).trans (le_iSup (fun b => ⨆ h, ⨆ l, stack x b h l) (i 0)))

/-- The host's minimum over every axis is the stack's least value. -/
theorem reduce_min (x : FVec Ideal SImg .f32) (h : SImg.ReducesTo [0, 1, 2, 3] SOne) (hu : 0 < SOne.numel) (i : SOne.Idx) :
    Host.reduce FloatOps.minimumf x (constant (F := Ideal) SOne .f32 0x7F800000#32) h hu i = lo (stack x) := by
  have e : Host.reduce FloatOps.minimumf x (constant (F := Ideal) SOne .f32 0x7F800000#32) h hu i
      = Host.reduce (min : EReal → EReal → EReal) x (constant (F := Ideal) SOne .f32 0x7F800000#32) h hu i := rfl
  rw [e, Host.reduce_eq_fold, Finset.filter_true_of_mem fun j _ => funext fun a => a.elim0]
  exact (fold_min x).trans (inf_stack x)

/-- The host's maximum over every axis is the stack's greatest value. -/
theorem reduce_max (x : FVec Ideal SImg .f32) (h : SImg.ReducesTo [0, 1, 2, 3] SOne) (hu : 0 < SOne.numel) (i : SOne.Idx) :
    Host.reduce FloatOps.maximumf x (constant (F := Ideal) SOne .f32 0xFF800000#32) h hu i = hi (stack x) := by
  have e : Host.reduce FloatOps.maximumf x (constant (F := Ideal) SOne .f32 0xFF800000#32) h hu i
      = Host.reduce (max : EReal → EReal → EReal) x (constant (F := Ideal) SOne .f32 0xFF800000#32) h hu i := rfl
  rw [e, Host.reduce_eq_fold, Finset.filter_true_of_mem fun j _ => funext fun a => a.elim0]
  exact (fold_max x).trans (sup_stack x)

/-- A value between two bounds with a nonzero difference has a real place in `[0, 1]`, and both programs' positions are that place. -/
theorem position (a x c : EReal) (h1 : a ≤ x) (h2 : x ≤ c) (hd : c - a ≠ 0) :
    ∃ r : ℝ, 0 ≤ r ∧ r ≤ 1 ∧ Ideal.div (x - a) (c - a) = (r : EReal) ∧
      (x - a) * Ideal.div (Ideal.ofBits .f32 0x45000000#32) (c - a) = ((r * 2048 : ℝ) : EReal) := by
  have d1 : ∀ y, Ideal.div y (c - a) = y * (c - a)⁻¹ := fun y => by unfold Ideal.div; rw [if_neg hd]
  rw [d1, d1, Tri.bits_2048]
  by_cases ht : c - a = ⊤ ∨ c - a = ⊥
  · have hi : (c - a)⁻¹ = 0 := by rcases ht with h | h <;> rw [h] <;> simp
    refine ⟨0, le_refl _, zero_le_one, ?_, ?_⟩
    · rw [hi, mul_zero, EReal.coe_zero]
    · rw [hi, mul_zero, mul_zero, zero_mul, EReal.coe_zero]
  · push Not at ht
    induction a using EReal.rec with
    | bot =>
      exfalso
      induction c using EReal.rec with
      | bot => exact ht.2 (by simp)
      | coe c => exact ht.1 (by simp)
      | top => exact ht.1 (by simp)
    | top =>
      exfalso
      exact ht.2 (by simp)
    | coe a =>
      induction c using EReal.rec with
      | bot => exact absurd (h1.trans h2) (by simp)
      | top => exact absurd (by simp) ht.1
      | coe c =>
        induction x using EReal.rec with
        | bot => exact absurd h1 (by simp)
        | top => exact absurd h2 (by simp)
        | coe x =>
          have g1 : a ≤ x := by exact_mod_cast h1
          have g2 : x ≤ c := by exact_mod_cast h2
          have g3 : c - a ≠ 0 := by
            intro g
            apply hd
            rw [← EReal.coe_sub, g, EReal.coe_zero]
          have g4 : 0 < c - a := lt_of_le_of_ne (by linarith) (Ne.symm g3)
          refine ⟨(x - a) / (c - a), by apply div_nonneg <;> linarith, by rw [div_le_one g4]; linarith, ?_, ?_⟩
          · rw [← EReal.coe_sub, ← EReal.coe_sub, ← EReal.coe_inv, ← EReal.coe_mul]
            rfl
          · rw [← EReal.coe_sub, ← EReal.coe_sub, ← EReal.coe_inv, ← EReal.coe_mul, ← EReal.coe_mul]
            exact congrArg (fun t : ℝ => (t : EReal)) (by field_simp)

/-- A bin of summed tables is the sum of the tables' bins. -/
theorem bin_sum (T : Fin 2048 → Fin 2048 → ℕ → ℕ → EReal) (q c : ℕ) :
    KernelIdeal.Final.bin (fun q c => ∑ h, ∑ w, T h w q c) q c = ∑ h, ∑ w, KernelIdeal.Final.bin (T h w) q c := by
  unfold KernelIdeal.Final.bin
  split_ifs <;> simp [Finset.sum_add_distrib]

end Cert.Range

open Cert.ReferenceIdeal Cert.ReferenceIdeal.Gen Cert.ReferenceIdeal.Read

namespace Cert.ReferenceIdeal.Hist

open Cert.Shared Cert.Range

variable (x0 : (⟨S8x1x2048x2048, .f32⟩ : BufTy).Contents (Elt Ideal))

theorem v9_eq (i : S_.Idx) : val_main_v9 (F := Ideal) x0 i = lo (stack x0) := by
  rw [val_main_v9]
  exact reduce_min x0 _ _ i
theorem v13_eq (i : S_.Idx) : val_main_v13 (F := Ideal) x0 i = lo (stack x0) := by
  rw [val_main_v13]
  exact reduce_min x0 _ _ i
theorem v12_eq (i : S_.Idx) : val_main_v12 (F := Ideal) x0 i = hi (stack x0) := by
  rw [val_main_v12]
  exact reduce_max x0 _ _ i

/-- A pixel's position in the reference. -/
theorem xf_eq (b : Fin 8) (n : Fin 4194304) :
    xf x0 b n = Ideal.div (stack x0 b ⟨n.val / 2048, by omega⟩ ⟨n.val % 2048, by omega⟩ - lo (stack x0)) (hi (stack x0) - lo (stack x0)) := by
  have e : idx_main_v25 (ix3 b 0 n) = ix4 b 0 ⟨n.val / 2048, by omega⟩ ⟨n.val % 2048, by omega⟩ := by
    have hb := b.isLt
    have hn := n.isLt
    funext a
    apply Fin.ext
    match a with
    | ⟨0, _⟩ => show ((b.val * 1 + 0) * 4194304 + n.val) / 4194304 = b.val; omega
    | ⟨1, _⟩ => rfl
    | ⟨2, _⟩ => show ((b.val * 1 + 0) * 4194304 + n.val) / 2048 % 2048 = n.val / 2048; omega
    | ⟨3, _⟩ => show ((b.val * 1 + 0) * 4194304 + n.val) % 2048 = n.val % 2048; omega
  rw [xf, val_main_v25_apply, e, val_main_v16_apply, val_main_v11_apply, val_main_v10_apply, v9_eq, val_main_v15_apply, val_main_v14_apply, v12_eq, v13_eq]
  rfl

/-- Where an image's range is not zero, the reference's bin is the kernel's. -/
theorem v100_kernel (hd : hi (stack x0) - lo (stack x0) ≠ 0) (b : Fin 8) (k : Fin 2048) :
    val_main_v100 (F := Ideal) x0 (ix3 b 0 k)
      = KernelIdeal.Final.bin (KernelIdeal.HostK.mass (stack x0) (lo (stack x0)) (KernelIdeal.HostK.scale (stack x0)) b) (k.val % 32) (k.val / 32) := by
  have hp : ∀ (b : Fin 8) (h l : Fin 2048), _ := fun b h l => position (lo (stack x0)) (stack x0 b h l) (hi (stack x0))
    ((iInf_le _ b).trans ((iInf_le _ h).trans (iInf_le _ l)))
    ((le_iSup (stack x0 b h) l).trans ((le_iSup (fun h => ⨆ l, stack x0 b h l) h).trans (le_iSup (fun b => ⨆ h, ⨆ l, stack x0 b h l) b))) hd
  choose R r0 r1 r2 r3 using hp
  rw [v100_eq x0 (fun b n => R b ⟨n.val / 2048, by omega⟩ ⟨n.val % 2048, by omega⟩) (fun b n => (xf_eq x0 b n).trans (r2 _ _ _)) (fun _ _ => r0 _ _ _) (fun _ _ => r1 _ _ _)]
  unfold KernelIdeal.HostK.mass
  rw [bin_sum]
  refine Eq.symm (Fin.sum_mul_add_congr fun h w hl => ?_)
  have e := r3 b h w
  unfold KernelIdeal.HostK.scale KernelIdeal.Hist.pos
  rw [e, Tri.bin_cell _ _ k.isLt]
  have e1 : (⟨(h.val * 2048 + w.val) / 2048, by omega⟩ : Fin 2048) = h := Fin.ext (by dsimp only; omega)
  have e2 : (⟨(h.val * 2048 + w.val) % 2048, by omega⟩ : Fin 2048) = w := Fin.ext (by dsimp only; omega)
  rw [e1, e2]

end Cert.ReferenceIdeal.Hist
-- ==== Proof.RefFinal.lean ====
/- The reference's result, in the kernel's terms. -/
module

public import proofs.«01_k».proof.Proof.RefStats

@[expose] public section

noncomputable section

open Idealize.ShloMosaic
open Cert.ReferenceIdeal Cert.ReferenceIdeal.Gen Cert.ReferenceIdeal.Read

namespace Cert.ReferenceIdeal.Hist

open Cert.Shared Cert.Range

variable (x0 x1 x2 : (⟨S8x1x2048x2048, .f32⟩ : BufTy).Contents (Elt Ideal)) (x3 : (⟨S8x1x2048x1, .f32⟩ : BufTy).Contents (Elt Ideal))

/-- The target's histogram is computed as the input's. -/
theorem v182_eq : val_main_v182 (F := Ideal) x1 = val_main_v103 (F := Ideal) x1 := rfl

/-- The histogram by batch and bin, before it is normalised. -/
def bins (b : Fin 8) (k : Fin 2048) : EReal := val_main_v100 (F := Ideal) x0 (ix3 b 0 k)
theorem bins_eq (b : Fin 8) (k : Fin 2048) : val_main_v100 (F := Ideal) x0 (ix3 b 0 k) = bins x0 b k := rfl

/-- All its mass. -/
theorem v101_eq (i : S_.Idx) : val_main_v101 (F := Ideal) x0 i = total (bins x0) := by
  rw [val_main_v101_apply, val_main_cst_34_apply, sum_idx3]
  refine ((congrArg (· + _) bits_0).trans (zero_add _)).trans ?_
  refine Finset.sum_congr rfl fun b _ => ?_
  rw [Fin.sum_univ_one]
  rfl

/-- The normalised histogram. -/
theorem v103_eq (b : Fin 8) (k : Fin 2048) : val_main_v103 (F := Ideal) x0 (ix3 b 0 k) = Ideal.div (bins x0 b k) (total (bins x0)) := by
  rw [val_main_v103_apply, val_main_v102_apply, v101_eq, bins_eq]
  generalize bins x0 b k = s
  generalize total (bins x0) = t
  rfl

/-- The weights by batch and bin. -/
def wts (b : Fin 8) (k : Fin 2048) : EReal := x3 (ix4 b 0 k 0)

theorem v187_eq (b : Fin 8) (k : Fin 2048) : val_main_v187 (F := Ideal) x3 (ix3 b 0 k) = wts x3 b k := by
  have e : idx_main_v187 (ix3 b 0 k) = ix4 b 0 k 0 := by
    have hb := b.isLt
    have hk := k.isLt
    funext a
    apply Fin.ext
    match a with
    | ⟨0, _⟩ => show ((b.val * 1 + 0) * 2048 + k.val) / 2048 = b.val; omega
    | ⟨1, _⟩ => rfl
    | ⟨2, _⟩ => show ((b.val * 1 + 0) * 2048 + k.val) / 1 % 2048 = k.val; omega
    | ⟨3, _⟩ => rfl
  rw [val_main_v187_apply, e]
  rfl

/-- One bin's weighted divergence. -/
theorem v192_eq (b : Fin 8) (k : Fin 2048) : val_main_v192 (F := Ideal) x0 x1 x3 (ix3 b 0 k)
    = weighted (FloatOps.exp (F := Ideal) (φ := .f32) (Ideal.div (bins x1 b k) (total (bins x1))) *
        (Ideal.div (bins x1 b k) (total (bins x1)) - Ideal.div (bins x0 b k) (total (bins x0)))) (wts x3 b k) := by
  simp -implicitDefEqProofs only [val_main_v192_apply, val_main_v190_apply, val_main_v191_apply, val_main_v189_apply, val_main_v188_apply, val_main_cst_63_apply, v187_eq,
    val_main_v186_apply, val_main_v185_apply, val_main_v184_apply, val_main_v183_apply, v182_eq, v103_eq]
  generalize Ideal.div (bins x1 b k) (total (bins x1)) = g
  generalize Ideal.div (bins x0 b k) (total (bins x0)) = p
  generalize wts x3 b k = w
  rfl

/-- One pixel's weighted difference. -/
theorem v6_eq (i : S8x1x2048x2048.Idx) : val_main_v6 (F := Ideal) x0 x1 x2 i = weighted ((show EReal from x0 i) - (show EReal from x1 i)) (show EReal from x2 i) := by
  simp -implicitDefEqProofs only [val_main_v6_apply, val_main_v4_apply, val_main_v5_apply, val_main_v3_apply, val_main_v2_apply, val_main_v1_apply, val_main_v0_apply, val_main_cst_apply]
  rfl

/-- The pixel term. -/
theorem v8_eq (i : S_.Idx) : val_main_v8 (F := Ideal) x0 x1 x2 i = Ideal.div (pixLoss (stack x0) (stack x1) (stack x2)) (Ideal.ofBits .f32 0x4C000000#32) := by
  have e : val_main_v7 (F := Ideal) x0 x1 x2 i = pixLoss (stack x0) (stack x1) (stack x2) := by
    rw [val_main_v7_apply, val_main_cst_0_apply, sum_idx4]
    refine ((congrArg (· + _) bits_0).trans (zero_add _)).trans ?_
    refine Finset.sum_congr rfl fun b _ => ?_
    rw [Fin.sum_univ_one]
    refine Finset.sum_congr rfl fun h _ => Finset.sum_congr rfl fun l _ => ?_
    rw [v6_eq]
    rfl
  rw [val_main_v8_apply, val_main_cst_1_apply, e]
  generalize pixLoss (stack x0) (stack x1) (stack x2) = s
  rfl

theorem bits_1 : Ideal.ofBits .f32 0x3F800000#32 = 1 := by
  rw [← EReal.coe_one]
  simp [Ideal.ofBits, Ideal.ieee, -EReal.coe_mul, -EReal.coe_one]
  norm_num

/-- The reference's result. -/
theorem v197_eq (i : S_.Idx) : val_main_v197 (F := Ideal) x0 x1 x2 x3 i
    = finish (bins x0) (bins x1) (wts x3) (Ideal.div (pixLoss (stack x0) (stack x1) (stack x2)) (Ideal.ofBits .f32 0x4C000000#32)) := by
  have e : val_main_v193 (F := Ideal) x0 x1 x3 i = ∑ b, ∑ k, weighted (FloatOps.exp (F := Ideal) (φ := .f32) (Ideal.div (bins x1 b k) (total (bins x1))) *
        (Ideal.div (bins x1 b k) (total (bins x1)) - Ideal.div (bins x0 b k) (total (bins x0)))) (wts x3 b k) := by
    rw [val_main_v193_apply, val_main_cst_64_apply, sum_idx3]
    refine ((congrArg (· + _) bits_0).trans (zero_add _)).trans ?_
    refine Finset.sum_congr rfl fun b _ => ?_
    rw [Fin.sum_univ_one]
    exact Finset.sum_congr rfl fun k _ => v192_eq x0 x1 x3 b k
  rw [val_main_v197_apply, val_main_v195_apply, val_main_cst_66_apply, v8_eq, val_main_v196_apply, val_main_cst_67_apply, val_main_v194_apply, val_main_cst_65_apply, e]
  unfold finish
  generalize ∑ b, ∑ k, weighted (FloatOps.exp (F := Ideal) (φ := .f32) (Ideal.div (bins x1 b k) (total (bins x1))) *
        (Ideal.div (bins x1 b k) (total (bins x1)) - Ideal.div (bins x0 b k) (total (bins x0)))) (wts x3 b k) = s
  generalize Ideal.div (pixLoss (stack x0) (stack x1) (stack x2)) (Ideal.ofBits .f32 0x4C000000#32) = l
  show Ideal.ofBits .f32 0x40800000#32 * l + Ideal.ofBits .f32 0x3F800000#32 * Ideal.div s (Ideal.ofBits .f32 0x46800000#32) = _
  rw [bits_1, one_mul]

/-- Where neither image's range is zero, the reference's result is the kernel's. -/
theorem v197_kernel (h0 : hi (stack x0) - lo (stack x0) ≠ 0) (h1 : hi (stack x1) - lo (stack x1) ≠ 0) (i : S_.Idx) :
    val_main_v197 (F := Ideal) x0 x1 x2 x3 i
      = finish (fun b k => KernelIdeal.Final.bin (KernelIdeal.HostK.mass (stack x0) (lo (stack x0)) (KernelIdeal.HostK.scale (stack x0)) b) (k.val % 32) (k.val / 32))
          (fun b k => KernelIdeal.Final.bin (KernelIdeal.HostK.mass (stack x1) (lo (stack x1)) (KernelIdeal.HostK.scale (stack x1)) b) (k.val % 32) (k.val / 32))
          (wts x3) (Ideal.div (pixLoss (stack x0) (stack x1) (stack x2)) (Ideal.ofBits .f32 0x4C000000#32)) := by
  rw [v197_eq]
  exact congrArg₂ (fun P G => finish P G (wts x3) _) (funext fun b => funext fun k => v100_kernel x0 h0 b k) (funext fun b => funext fun k => v100_kernel x1 h1 b k)

end Cert.ReferenceIdeal.Hist
-- ==== Proof.Value.lean ====
/- The value claim: from equal arguments whose two ranges are not zero, the kernel and the reference end in the same loss. -/
module

public import proofs.«01_k».proof.Proof.Run
public import proofs.«01_k».proof.Proof.RefFinal
public import proofs.«01_k».proof.Defs

@[expose] public section

noncomputable section

open Idealize.ShloMosaic Idealize.SL.Sem

namespace Cert.Value

open Cert.Shared Cert.Range

/-- The shape facts the precondition's reductions take. -/
instance preFacts : Cert.Pre_ranges_nonzero.Facts where
  reducesTo_S8x1x2048x2048_S_d0_1_2_3 := by decide
  h_S_ := by decide

/-- Zero does not differ from zero. -/
theorem une_zero : FloatOps.cmpf (F := Ideal) (φ := .f32) .une (0 : EReal) (0 : EReal) = 0#1 := by
  show Ideal.cmp .une (0 : EReal) (0 : EReal) = 0#1
  simp [Ideal.cmp]

/-- Two comparisons against zero that both hold say that both values are not zero. -/
theorem nonzero_of (d e : EReal)
    (h : IntOp.andi (FloatOps.cmpf (F := Ideal) (φ := .f32) .une d (Ideal.ofBits .f32 0x00000000#32))
      (FloatOps.cmpf (F := Ideal) (φ := .f32) .une e (Ideal.ofBits .f32 0x00000000#32)) = 1#1) : d ≠ 0 ∧ e ≠ 0 := by
  rw [ReferenceIdeal.Hist.bits_0] at h
  constructor
  · rintro rfl
    rw [une_zero] at h
    simp [IntOp.andi] at h
  · rintro rfl
    rw [une_zero] at h
    simp [IntOp.andi] at h

/-- The same of scalars in rank-zero arrays, each a difference of two. -/
theorem nonzero_arrays (a b d e : FVec Ideal SOne .f32)
    (h : andi (cmpf .une (subf a b) (constant (F := Ideal) SOne .f32 0x00000000#32)) (cmpf .une (subf d e) (constant (F := Ideal) SOne .f32 0x00000000#32)) ix0 = 1#1) :
    (show EReal from a ix0) - (show EReal from b ix0) ≠ 0 ∧ (show EReal from d ix0) - (show EReal from e ix0) ≠ 0 :=
  nonzero_of _ _ h

/-- What the precondition says: neither image's greatest value minus its least is zero. -/
theorem ranges (x0 x1 x2 : FVec Ideal SImg .f32) (x3 : FVec Ideal Cert.Pre_ranges_nonzero.S8x1x2048x1 .f32)
    (h : Cert.Pre_ranges_nonzero.fn (F := Ideal) x0 x1 x2 x3 = fun _ => 1#1) :
    hi (stack x0) - lo (stack x0) ≠ 0 ∧ hi (stack x1) - lo (stack x1) ≠ 0 := by
  unfold Cert.Pre_ranges_nonzero.fn at h
  have e := nonzero_arrays _ _ _ _ (congrFun h ix0)
  dsimp only at e
  rw [reduce_max, reduce_min, reduce_max, reduce_min] at e
  exact e

/-- The kernel's loss is the reference's, on arguments where neither range is zero. -/
theorem algebraic : Cert.algebraic_KernelIdeal_ReferenceIdeal_pre_ranges_nonzero := by
  intro m g m' g' hpre hargs
  refine ⟨fun c => fun _ => KernelIdeal.HostK.result m c, (θ_run _ _ _).mono (fun r h => h.1) (KernelIdeal.Run.run m g),
    (θ_run _ _ _).mono (fun r h c => ⟨(h c).1.trans ?_, (h c).2⟩) (ReferenceIdeal.Value.run (F := Ideal) m' g')⟩
  refine (ReferenceIdeal.Read.val_main_v197_eq (F := Ideal) _).trans ?_
  rw [StableHlo.launchContents_devRef, StableHlo.launchContents_devRef, StableHlo.launchContents_devRef, StableHlo.launchContents_devRef,
    (hargs c).1, (hargs c).2.1, (hargs c).2.2.1, (hargs c).2.2.2]
  funext i
  have hr := ranges _ _ _ _ (hpre c)
  exact ReferenceIdeal.Hist.v197_kernel _ _ _ _ hr.1 hr.2 i

end Cert.Value
-- ==== Proof.lean ====
module

public import proofs.«01_k».proof.Proof.Value
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The kernel, at the bit-exact instance, ends with its arguments unchanged and its counters at zero. -/
theorem frame_p : Cert.quiescent_Kernel := fun m ρ _ => Cert.Kernel.Gen.frame m ρ

/-- The same of the kernel read at the extended reals. -/
theorem frame_pi : Cert.quiescent_KernelIdeal := fun m ρ _ => Cert.KernelIdeal.Gen.frame m ρ

/-- The same of the reference, which declares no semaphore. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The certificate's claim. -/
theorem claim : Cert.Claim :=
  ⟨Cert.Kernel.Gen.facts, Cert.KernelIdeal.Gen.facts, Cert.ReferenceIdeal.Gen.facts, Cert.Value.preFacts,
    frame_p, frame_pi, fun m ρ _ => frame_pi m ρ trivial, frame_ri, fun m ρ _ => frame_ri m ρ trivial, trivial, Cert.Value.algebraic⟩

end Cert.Proof

end
